-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x64 : Shape := ⟨3, ![8, 2048, 64]⟩
abbrev S64x64 : Shape := ⟨2, ![64, 64]⟩
abbrev S64 : Shape := ⟨1, ![64]⟩
abbrev S64x4 : Shape := ⟨2, ![64, 4]⟩
abbrev S4 : Shape := ⟨1, ![4]⟩
abbrev S192x128 : Shape := ⟨2, ![192, 128]⟩
abbrev S128 : Shape := ⟨1, ![128]⟩
abbrev S1x64 : Shape := ⟨2, ![1, 64]⟩
abbrev S1x4 : Shape := ⟨2, ![1, 4]⟩
abbrev S1x128 : Shape := ⟨2, ![1, 128]⟩
abbrev S8x2048x128 : Shape := ⟨3, ![8, 2048, 128]⟩
abbrev S1x2048x64 : Shape := ⟨3, ![1, 2048, 64]⟩
abbrev S1x512x64 : Shape := ⟨3, ![1, 512, 64]⟩
abbrev S1x512x128 : Shape := ⟨3, ![1, 512, 128]⟩
abbrev S2048x64 : Shape := ⟨2, ![2048, 64]⟩
abbrev S512x64 : Shape := ⟨2, ![512, 64]⟩
abbrev S2048x4 : Shape := ⟨2, ![2048, 4]⟩
abbrev S512x4 : Shape := ⟨2, ![512, 4]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S2048x1 : Shape := ⟨2, ![2048, 1]⟩
abbrev S1x2048 : Shape := ⟨2, ![1, 2048]⟩
abbrev S64x128 : Shape := ⟨2, ![64, 128]⟩
abbrev S512x128 : Shape := ⟨2, ![512, 128]⟩

abbrev nBuf : Space → Nat
  | .hbm => 11
  | .vmem => 12
  | .smem => 0
  | _ => 0

abbrev bufTy : (tb : Table) → Fin (tcTables nBuf tb) → BufTy
  | .hbm, ⟨0, _⟩ => ⟨S8x2048x64, .f32⟩
  | .hbm, ⟨1, _⟩ => ⟨S64x64, .f32⟩
  | .hbm, ⟨2, _⟩ => ⟨S64, .f32⟩
  | .hbm, ⟨3, _⟩ => ⟨S64x4, .f32⟩
  | .hbm, ⟨4, _⟩ => ⟨S4, .f32⟩
  | .hbm, ⟨5, _⟩ => ⟨S192x128, .f32⟩
  | .hbm, ⟨6, _⟩ => ⟨S128, .f32⟩
  | .hbm, ⟨7, _⟩ => ⟨S1x64, .f32⟩
  | .hbm, ⟨8, _⟩ => ⟨S1x4, .f32⟩
  | .hbm, ⟨9, _⟩ => ⟨S1x128, .f32⟩
  | .hbm, ⟨10, _⟩ => ⟨S8x2048x128, .f32⟩
  | .local _ .vmem, ⟨0, _⟩ => ⟨S1x2048x64, .f32⟩
  | .local _ .vmem, ⟨1, _⟩ => ⟨S1x2048x64, .f32⟩
  | .local _ .vmem, ⟨2, _⟩ => ⟨S1x512x64, .f32⟩
  | .local _ .vmem, ⟨3, _⟩ => ⟨S1x512x64, .f32⟩
  | .local _ .vmem, ⟨4, _⟩ => ⟨S64x64, .f32⟩
  | .local _ .vmem, ⟨5, _⟩ => ⟨S1x64, .f32⟩
  | .local _ .vmem, ⟨6, _⟩ => ⟨S64x4, .f32⟩
  | .local _ .vmem, ⟨7, _⟩ => ⟨S1x4, .f32⟩
  | .local _ .vmem, ⟨8, _⟩ => ⟨S192x128, .f32⟩
  | .local _ .vmem, ⟨9, _⟩ => ⟨S1x128, .f32⟩
  | .local _ .vmem, ⟨10, _⟩ => ⟨S1x512x128, .f32⟩
  | .local _ .vmem, ⟨11, _⟩ => ⟨S1x512x128, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x2048x64 : Shape := ⟨3, ![8, 2048, 64]⟩
abbrev S64x64 : Shape := ⟨2, ![64, 64]⟩
abbrev S64 : Shape := ⟨1, ![64]⟩
abbrev S64x4 : Shape := ⟨2, ![64, 4]⟩
abbrev S4 : Shape := ⟨1, ![4]⟩
abbrev S192x128 : Shape := ⟨2, ![192, 128]⟩
abbrev S128 : Shape := ⟨1, ![128]⟩
abbrev S1x1x64 : Shape := ⟨3, ![1, 1, 64]⟩
abbrev S8x2048x4 : Shape := ⟨3, ![8, 2048, 4]⟩
abbrev S1x1x4 : Shape := ⟨3, ![1, 1, 4]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x16 : Shape := ⟨3, ![8, 2048, 16]⟩
abbrev S8x2048x15 : Shape := ⟨3, ![8, 2048, 15]⟩
abbrev S8x2048x15x1 : Shape := ⟨4, ![8, 2048, 15, 1]⟩
abbrev S8x2048x15x64 : Shape := ⟨4, ![8, 2048, 15, 64]⟩
abbrev S8x2048x128 : Shape := ⟨3, ![8, 2048, 128]⟩
abbrev S8x2048x192 : Shape := ⟨3, ![8, 2048, 192]⟩
abbrev S1x1x128 : Shape := ⟨3, ![1, 1, 128]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S64x64, .f32⟩
  | .hbm, ⟨2, _⟩ => ⟨S64, .f32⟩
  | .hbm, ⟨3, _⟩ => ⟨S64x4, .f32⟩
  | .hbm, ⟨4, _⟩ => ⟨S4, .f32⟩
  | .hbm, ⟨5, _⟩ => ⟨S192x128, .f32⟩
  | .hbm, ⟨6, _⟩ => ⟨S128, .f32⟩
  | .hbm, ⟨7, _⟩ => ⟨S8x2048x64, .f32⟩
  | .hbm, ⟨8, _⟩ => ⟨S1x1x64, .f32⟩
  | .hbm, ⟨9, _⟩ => ⟨S8x2048x64, .f32⟩
  | .hbm, ⟨10, _⟩ => ⟨S8x2048x64, .f32⟩
  | .hbm, ⟨11, _⟩ => ⟨S8x2048x4, .f32⟩
  | .hbm, ⟨12, _⟩ => ⟨S1x1x4, .f32⟩
  | .hbm, ⟨13, _⟩ => ⟨S8x2048x4, .f32⟩
  | .hbm, ⟨14, _⟩ => ⟨S8x2048x4, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S8x2048x4, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S8x2048x4, .f32⟩
  | .hbm, ⟨24, _⟩ => ⟨S_, .f32⟩
  | .hbm, ⟨25, _⟩ => ⟨S8x2048, .f32⟩
  | .hbm, ⟨26, _⟩ => ⟨S8x1x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x16, .f32⟩
  | .hbm, ⟨34, _⟩ => ⟨S8x2048x16, .i32⟩
  | .hbm, ⟨35, _⟩ => ⟨S8x2048x15, .i32⟩
  | .hbm, ⟨36, _⟩ => ⟨S8x2048x15, .f32⟩
  | .hbm, ⟨37, _⟩ => ⟨S8x2048x15, .f32⟩
  | .hbm, ⟨38, _⟩ => ⟨S_, .f32⟩
  | .hbm, ⟨39, _⟩ => ⟨S8x2048x15, .f32⟩
  | .hbm, ⟨40, _⟩ => ⟨S8x2048x15, .f32⟩
  | .hbm, ⟨41, _⟩ => ⟨S8x2048x15, .f32⟩
  | .hbm, ⟨42, _⟩ => ⟨S_, .i32⟩
  | .hbm, ⟨43, _⟩ => ⟨S8x2048x15, .i32⟩
  | .hbm, ⟨44, _⟩ => ⟨S8x2048x15, .i1⟩
  | .hbm, ⟨45, _⟩ => ⟨S_, .i32⟩
  | .hbm, ⟨46, _⟩ => ⟨S8x2048x15, .i32⟩
  | .hbm, ⟨47, _⟩ => ⟨S8x2048x15, .i32⟩
  | .hbm, ⟨48, _⟩ => ⟨S8x2048x15, .i32⟩
  | .hbm, ⟨49, _⟩ => ⟨S8x2048x15x1, .i32⟩
  | .hbm, ⟨50, _⟩ => ⟨S8x2048x15x64, .f32⟩
  | .hbm, ⟨51, _⟩ => ⟨S8x2048x15x1, .f32⟩
  | .hbm, ⟨52, _⟩ => ⟨S8x2048x15x64, .f32⟩
  | .hbm, ⟨53, _⟩ => ⟨S8x2048x15x64, .f32⟩
  | .hbm, ⟨54, _⟩ => ⟨S_, .f32⟩
  | .hbm, ⟨55, _⟩ => ⟨S8x2048x64, .f32⟩
  | .hbm, ⟨56, _⟩ => ⟨S_, .f32⟩
  | .hbm, ⟨57, _⟩ => ⟨S8x2048x64, .f32⟩
  | .hbm, ⟨58, _⟩ => ⟨S8x2048x64, .f32⟩
  | .hbm, ⟨59, _⟩ => ⟨S_, .f32⟩
  | .hbm, ⟨60, _⟩ => ⟨S8x2048x64, .f32⟩
  | .hbm, ⟨61, _⟩ => ⟨S8x2048x128, .f32⟩
  | .hbm, ⟨62, _⟩ => ⟨S8x2048x192, .f32⟩
  | .hbm, ⟨63, _⟩ => ⟨S8x2048x128, .f32⟩
  | .hbm, ⟨64, _⟩ => ⟨S1x1x128, .f32⟩
  | .hbm, ⟨65, _⟩ => ⟨S8x2048x128, .f32⟩
  | .hbm, ⟨66, _⟩ => ⟨S8x2048x128, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_values : Ref sig .tc := ⟨.hbm, 33, rfl⟩
abbrev main_indices : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Proof.Rounds.lean ====
/-
  The sixteen nearest of a row, two ways. A row of distances `w : Fin n → EReal` is searched round by round: a round
  takes the least distance (`low`), finds the first place it stands at (`spot`), and writes `⊤` there (`mask`). A
  stable sort of the row gives a permutation whose `k`-th place is the `k`-th nearest. This file proves that round
  `k` finds what the sort puts at place `k` (`low_work`, `spot_work`), and that what the round contributes to a
  weighted sum is the weighted entry of the sort's `k`-th place (`hit_work`), also where the distances are `⊤`: the
  weight is then `0`.
-/
module

public import Idealize.ShloMosaic.Lib.SortFacts
public import Idealize.ShloMosaic.PureOps.Ideal.Laws

@[expose] public section

noncomputable section

namespace Nearest

open Idealize.ShloMosaic

variable {n : ℕ}

/-! ## What a stable sort of a row leaves -/

/-- Place `i` of the row comes before place `j`: its distance is smaller, or the distances agree and it is earlier. -/
def Before (w : Fin n → EReal) (i j : Fin n) : Prop := w i < w j ∨ (w i = w j ∧ i < j)

/-- `Before` is transitive. -/
theorem Before.trans {w : Fin n → EReal} {i j k : Fin n} (h : Before w i j) (h' : Before w j k) : Before w i k := by
  rcases h with h | ⟨h, hl⟩ <;> rcases h' with h' | ⟨h', hl'⟩
  · exact Or.inl (h.trans h')
  · exact Or.inl (h' ▸ h)
  · exact Or.inl (h ▸ h')
  · exact Or.inr ⟨h.trans h', hl.trans hl'⟩

/-- A place put before another has a distance at most the other's. -/
theorem Before.le {w : Fin n → EReal} {i j : Fin n} (h : Before w i j) : w i ≤ w j := by
  rcases h with h | ⟨h, _⟩
  · exact h.le
  · exact h.le

/-- Inserting a place that is earlier than all those of an ordered list leaves the list ordered. -/
theorem pairwise_insert (w : Fin n → EReal) (R : Fin n → Fin n → Bool) (hR : ∀ i j, R i j = true ↔ w i < w j)
    (a : Fin n) (l : List (Fin n)) (ha : ∀ b ∈ l, a < b) (hl : l.Pairwise (Before w)) :
    (insertBefore R a l).Pairwise (Before w) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem b hc)) hl.2⟩
      rcases List.mem_cons.mp ((perm_insertBefore R a l).mem_iff.mp hc) with rfl | hc'
      · exact Or.inl ((hR b c).mp h)
      · exact hl.1 c hc'
    · rename_i h
      have hab : Before w a b := by
        rcases lt_or_eq_of_le (not_lt.mp fun hlt => h ((hR b a).mpr hlt)) with hlt | heq
        · exact Or.inl hlt
        · exact Or.inr ⟨heq, ha b List.mem_cons_self⟩
      refine List.pairwise_cons.mpr ⟨fun c hc => ?_, List.pairwise_cons.mpr hl⟩
      rcases List.mem_cons.mp hc with rfl | hc'
      · exact hab
      · exact hab.trans (hl.1 c hc')

/-- A stable sort by distance of an increasing list of places leaves it ordered by `Before`. -/
theorem pairwise_sort (w : Fin n → EReal) (R : Fin n → Fin n → Bool) (hR : ∀ i j, R i j = true ↔ w i < w j)
    (l : List (Fin n)) (hl : l.Pairwise (· < ·)) : (stableSort R l).Pairwise (Before w) := by
  induction l with
  | nil => exact List.Pairwise.nil
  | cons a l ih =>
    rw [List.pairwise_cons] at hl
    unfold stableSort
    exact pairwise_insert w R hR a _ (fun b hb => hl.1 b ((perm_stableSort R l).mem_iff.mp hb)) (ih hl.2)

/-- The sorting permutation puts an earlier place's source before a later one's. -/
theorem sortedFrom_before (w : Fin n → EReal) (R : Fin n → Fin n → Bool) (hR : ∀ i j, R i j = true ↔ w i < w j)
    (i j : Fin n) (hij : i < j) : Before w (sortedFrom R i) (sortedFrom R j) := by
  have hp : ∀ a b : Fin (sortPositions n R).length, a < b →
      Before w ((sortPositions n R).get a) ((sortPositions n R).get b) :=
    List.pairwise_iff_get.mp (pairwise_sort w R hR (List.finRange n) (List.pairwise_lt_finRange n))
  unfold sortedFrom
  exact hp _ _ (by simp only [Fin.lt_def, Fin.val_cast]; exact hij)

/-! ## The rounds -/

/-- A place of the row as a number. -/
def num (j : Fin n) : EReal := ((j.val : ℝ) : EReal)

/-- Places are told apart by their numbers. -/
theorem num_inj {i j : Fin n} : num i = num j ↔ i = j := by
  unfold num
  rw [EReal.coe_eq_coe_iff, Nat.cast_inj, Fin.val_inj]

/-- The order of places is the order of their numbers. -/
theorem num_le {i j : Fin n} : num i ≤ num j ↔ i ≤ j := by
  unfold num
  rw [EReal.coe_le_coe_iff, Nat.cast_le, Fin.le_def]

/-- The least distance of a row. -/
def low (w : Fin n → EReal) : EReal := Finset.univ.inf w

/-- The first place the least distance stands at, as a number. -/
def spot (w : Fin n → EReal) : EReal :=
  Finset.univ.inf fun j => if w j = low w then num j else ((n : ℝ) : EReal)

/-- The row with `⊤` written at the place found. -/
def mask (w : Fin n → EReal) : Fin n → EReal := fun j => if num j = spot w then ⊤ else w j

/-- The row after `k` rounds. -/
def work (w : Fin n → EReal) : ℕ → Fin n → EReal
  | 0 => w
  | k + 1 => mask (work w k)

section sorted

variable {w : Fin n → EReal} {p : Fin n → Fin n}

/-- In an ordered row a later place's distance is at least an earlier one's. -/
theorem le_of_sorted (hp : ∀ i j, i < j → Before w (p i) (p j)) {i j : Fin n} (hij : i ≤ j) : w (p i) ≤ w (p j) := by
  rcases lt_or_eq_of_le hij with h | rfl
  · exact (hp i j h).le
  · exact le_rfl

/-- If the places before `k` have been masked and no other, the least distance left is that of place `k`. -/
theorem low_of (hs : Function.Surjective p) (hp : ∀ i j, i < j → Before w (p i) (p j)) (u : Fin n → EReal) (k : Fin n)
    (hu : ∀ j, u (p j) = if j < k then ⊤ else w (p j)) : low u = w (p k) := by
  refine le_antisymm ?_ (Finset.le_inf fun i _ => ?_)
  · have h := Finset.inf_le (f := u) (Finset.mem_univ (p k))
    rwa [hu, if_neg (lt_irrefl k)] at h
  · obtain ⟨j, rfl⟩ := hs i
    rw [hu]
    split
    · exact le_top
    · rename_i h
      exact le_of_sorted hp (not_lt.mp h)

/-- … and, that distance not being `⊤`, the place found is place `k`. -/
theorem spot_of (hs : Function.Surjective p) (hp : ∀ i j, i < j → Before w (p i) (p j)) (u : Fin n → EReal) (k : Fin n)
    (hu : ∀ j, u (p j) = if j < k then ⊤ else w (p j)) (ht : w (p k) ≠ ⊤) : spot u = num (p k) := by
  have hlow := low_of hs hp u k hu
  unfold spot
  rw [hlow]
  refine le_antisymm ?_ (Finset.le_inf fun i _ => ?_)
  · have h := Finset.inf_le (f := fun j => if u j = w (p k) then num j else ((n : ℝ) : EReal)) (Finset.mem_univ (p k))
    have hk : u (p k) = w (p k) := by rw [hu, if_neg (lt_irrefl k)]
    simpa only [hk, if_true] using h
  · obtain ⟨j, rfl⟩ := hs i
    split
    · rename_i h
      rw [hu] at h
      by_cases hjk : j < k
      · rw [if_pos hjk] at h
        exact absurd h.symm ht
      · rw [if_neg hjk] at h
        rcases lt_or_eq_of_le (not_lt.mp hjk) with hkj | rfl
        · rcases hp k j hkj with hlt | ⟨_, hlt⟩
          · exact absurd h hlt.ne'
          · exact num_le.mpr hlt.le
        · exact le_rfl
    · unfold num
      exact EReal.coe_le_coe_iff.mpr (Nat.cast_le.mpr (p k).isLt.le)

/-- After `k` rounds exactly the `k` nearest places hold `⊤`, the others their distances. -/
theorem work_of (hi : Function.Injective p) (hs : Function.Surjective p) (hp : ∀ i j, i < j → Before w (p i) (p j))
    (k : ℕ) (hk : k ≤ n) (j : Fin n) : work w k (p j) = if j.val < k then ⊤ else w (p j) := by
  induction k generalizing j with
  | zero => rw [if_neg (Nat.not_lt_zero _)]; rfl
  | succ k ih =>
    have hu : ∀ j, work w k (p j) = if j < (⟨k, hk⟩ : Fin n) then ⊤ else w (p j) := fun j => ih (Nat.le_of_succ_le hk) j
    show mask (work w k) (p j) = _
    unfold mask
    by_cases ht : w (p ⟨k, hk⟩) = ⊤
    · have hall : ∀ j : Fin n, ¬ j.val < k → w (p j) = ⊤ := fun j hj =>
        top_le_iff.mp (ht ▸ le_of_sorted hp (i := ⟨k, hk⟩) (j := j) (Fin.le_def.mpr (not_lt.mp hj)))
      have hl : work w k (p j) = ⊤ := by
        rw [hu]
        split
        · rfl
        · rename_i h
          exact hall j h
      have hr : (if j.val < k + 1 then ⊤ else w (p j)) = ⊤ := by
        split
        · rfl
        · rename_i h
          exact hall j (by omega)
      rw [hl, hr, ite_self]
    · rw [spot_of hs hp _ ⟨k, hk⟩ hu ht, hu]
      by_cases hj : j = ⟨k, hk⟩
      · subst hj
        rw [if_pos rfl, if_pos (Nat.lt_succ_self k)]
      · rw [if_neg (fun h => hj (hi (num_inj.mp h)))]
        have hne : j.val ≠ k := fun h => hj (Fin.ext h)
        by_cases hlt : j.val < k
        · rw [if_pos (Fin.lt_def.mpr hlt), if_pos (by omega)]
        · rw [if_neg (fun h => hlt (Fin.lt_def.mp h)), if_neg (by omega)]

/-- Round `k`'s least distance is the distance of the sort's place `k`. -/
theorem low_work (hi : Function.Injective p) (hs : Function.Surjective p) (hp : ∀ i j, i < j → Before w (p i) (p j))
    (k : Fin n) : low (work w k.val) = w (p k) :=
  low_of hs hp _ k fun j => work_of hi hs hp k.val k.isLt.le j

/-- Round `k` finds the sort's place `k`, where that place's distance is not `⊤`. -/
theorem spot_work (hi : Function.Injective p) (hs : Function.Surjective p) (hp : ∀ i j, i < j → Before w (p i) (p j))
    (k : Fin n) (ht : w (p k) ≠ ⊤) : spot (work w k.val) = num (p k) :=
  spot_of hs hp _ k (fun j => work_of hi hs hp k.val k.isLt.le j) ht

end sorted

/-! ## What a round contributes -/

/-- The weight of a distance. -/
def weight (d : EReal) : EReal := Ideal.exp (((-10 : ℝ) : EReal) * d)

/-- A distance of `⊤` weighs nothing. -/
theorem weight_top : weight ⊤ = 0 := by
  unfold weight
  rw [EReal.coe_mul_top_of_neg (by norm_num), Ideal.exp_bot]

/-- What a round contributes for the column `g`: the entry at the place found — the sum of the column against the
    indicator of that place — times the weight of the least distance. -/
def hit (w : Fin n → EReal) (g : Fin n → EReal) : EReal :=
  (∑ j, (if num j = spot w then 1 else 0) * g j) * weight (low w)

/-- The contribution of round `k` is the weighted entry of the sort's place `k`. -/
theorem hit_work {w : Fin n → EReal} {p : Fin n → Fin n} (hi : Function.Injective p) (hs : Function.Surjective p)
    (hp : ∀ i j, i < j → Before w (p i) (p j)) (g : Fin n → EReal) (k : Fin n) :
    hit (work w k.val) g = g (p k) * weight (w (p k)) := by
  unfold hit
  rw [low_work hi hs hp k]
  by_cases ht : w (p k) = ⊤
  · rw [ht, weight_top, mul_zero, mul_zero]
  · rw [spot_work hi hs hp k ht]
    refine congrArg (· * _) ?_
    rw [Finset.sum_eq_single (p k)]
    · rw [if_pos rfl, one_mul]
    · intro j _ hj
      rw [if_neg (fun h => hj (num_inj.mp h)), zero_mul]
    · intro h
      exact absurd (Finset.mem_univ _) h

end Nearest
-- ==== Proof.Layer.lean ====
/-
  The layer, as mathematics: a point has a row of 64 numbers; `affine` is one entry of a dense transform; `gap` is the
  distance the layer takes of two coordinate rows; `mean` and `top` gather a feature over the fifteen nearest points
  after the nearest one (found by the rounds of `Nearest`), and `result` is one entry of the layer's result for a point.
  With them the values of the 32-bit words the programs' literals are.
-/
module

public import proofs.«01_k».proof.Proof.Rounds
public import Idealize.ShloMosaic.PureOps.Ideal.Laws
public import Idealize.ShloMosaic.Lib.ValueIdx

@[expose] public section

noncomputable section

open Idealize.ShloMosaic
open scoped BigOperators

namespace Word

/-- The word of `2048.0`. -/
theorem word_2048 : Ideal.ofBits .f32 0x45000000#32 = (((2048 : ℕ) : ℝ) : EReal) := by
  simp [Ideal.ofBits, Ideal.ieee]
  rw [← EReal.coe_mul]
  norm_num

/-- The word of `+∞`. -/
theorem word_top : Ideal.ofBits .f32 0x7F800000#32 = ⊤ := by simp [Ideal.ofBits, Ideal.ieee]

/-- The word of `-∞`. -/
theorem word_bot : Ideal.ofBits .f32 0xFF800000#32 = ⊥ := by simp [Ideal.ofBits, Ideal.ieee]

/-- The word of `-10.0`. -/
theorem word_ten : Ideal.ofBits .f32 0xC1200000#32 = ((-10 : ℝ) : EReal) := by
  simp [Ideal.ofBits, Ideal.ieee]
  rw [← EReal.coe_mul]
  norm_num

/-- The word of `-2.0`. -/
theorem word_two : Ideal.ofBits .f32 0xC0000000#32 = ((-2 : ℝ) : EReal) := by
  simp [Ideal.ofBits, Ideal.ieee]
  rw [← EReal.coe_mul]
  norm_num

/-- The word of `15.0`. -/
theorem word_fifteen : Ideal.ofBits .f32 0x41700000#32 = ((15 : ℝ) : EReal) := by
  simp [Ideal.ofBits, Ideal.ieee]
  rw [← EReal.coe_mul]
  norm_num

/-- A literal of a program, as the number its word is. -/
theorem ofBits_ideal (b : BitVec 32) : (Scalar.ofBits .f32 b : Ideal .f32) = Ideal.ofBits .f32 b := rfl

end Word

namespace Layer

/-- One entry of a dense transform: the product of a row and a column, and the bias. -/
def affine {K : ℕ} (x W : Fin K → EReal) (b : EReal) : EReal := (∑ k, x k * W k) + b

/-- The squared length of a coordinate row. -/
def square (c : Fin 4 → EReal) : EReal := ∑ s, c s * c s

/-- The distance of two coordinate rows, before the absolute value is taken. -/
def rawGap (c d : Fin 4 → EReal) : EReal := (((-2 : ℝ) : EReal) * (∑ s, c s * d s) + square c) + square d

/-- The distance of two coordinate rows: the absolute value of the squared distance multiplied out. -/
def gap (c d : Fin 4 → EReal) : EReal := max (rawGap c d) (-rawGap c d)

/-- What round `k + 1` takes of a feature `g` under the distances `w`. -/
def taken (w g : Fin 2048 → EReal) (k : ℕ) : EReal := Nearest.hit (Nearest.work w (k + 1)) g

/-- The mean of a feature over the fifteen points taken. -/
def mean (w g : Fin 2048 → EReal) : EReal := Ideal.div (∑ k ∈ Finset.range 15, taken w g k) ((15 : ℝ) : EReal)

/-- The greatest of a feature's fifteen values taken. -/
def top (w g : Fin 2048 → EReal) : EReal := (Finset.range 15).sup (taken w g)

/-- One entry of the layer's result: the point's own row `x`, the means and the greatest values of the 64 features `f`,
    each times its part of the column `W` of 192 numbers, and the bias. -/
def result (x : Fin 64 → EReal) (f : Fin 2048 → Fin 64 → EReal) (w : Fin 2048 → EReal) (W : Fin 192 → EReal)
    (b : EReal) : EReal :=
  (((∑ k : Fin 64, x k * W ⟨k.val, by omega⟩)
    + ∑ k : Fin 64, mean w (fun j => f j k) * W ⟨64 + k.val, by omega⟩)
    + ∑ k : Fin 64, top w (fun j => f j k) * W ⟨128 + k.val, by omega⟩) + b

/-! ## The layer on whole arrays -/

section Arrays

open Idealize.ShloMosaic.ValueIdx

variable (x : (⟨3, ![8, 2048, 64]⟩ : Shape).Idx → EReal) (Wf : (⟨2, ![64, 64]⟩ : Shape).Idx → EReal)
  (bf : (⟨1, ![64]⟩ : Shape).Idx → EReal) (Ws : (⟨2, ![64, 4]⟩ : Shape).Idx → EReal)
  (bs : (⟨1, ![4]⟩ : Shape).Idx → EReal) (Wo : (⟨2, ![192, 128]⟩ : Shape).Idx → EReal)
  (bo : (⟨1, ![128]⟩ : Shape).Idx → EReal)

/-- The row of point `p` of batch `b`. -/
def row (b : Fin 8) (p : Fin 2048) : Fin 64 → EReal := fun k => x (ix3 b p k)

/-- The coordinates of point `p` of batch `b`. -/
def coords (b : Fin 8) (p : Fin 2048) : Fin 4 → EReal :=
  fun s => affine (row x b p) (fun k => Ws (ix2 k s)) (bs (ix1 s))

/-- The feature `e` of point `p` of batch `b`. -/
def feature (b : Fin 8) (p : Fin 2048) (e : Fin 64) : EReal :=
  affine (row x b p) (fun k => Wf (ix2 k e)) (bf (ix1 e))

/-- The distances of point `p` of batch `b` to the points of its batch. -/
def gaps (b : Fin 8) (p : Fin 2048) : Fin 2048 → EReal := fun j => gap (coords x Ws bs b p) (coords x Ws bs b j)

/-- The layer's result for point `p` of batch `b`, in column `c`. -/
def entry (b : Fin 8) (p : Fin 2048) (c : Fin 128) : EReal :=
  result (row x b p) (feature x Wf bf b) (gaps x Ws bs b p) (fun k => Wo (ix2 k c)) (bo (ix1 c))

/-- The layer's whole result. -/
def output : (⟨3, ![8, 2048, 128]⟩ : Shape).Idx → EReal := fun i => entry x Wf bf Ws bs Wo bo (i 0) (i 1) (i 2)

end Arrays

end Layer
-- ==== Proof.Search.lean ====
/-
  The search of one block, as the kernel writes it on whole vectors: a block is 512 rows of 2048 distances. `leastCol`
  takes the rows' least distances, `spotCol` the first places they stand at, `maskBlock` writes `⊤` at those places and
  `rounds` repeats this. `share` is what one round adds for each feature: the rows picked out of the feature table by
  the indicator of the places found, times the weights. Read at an index each is the row's own `Nearest.low`,
  `Nearest.spot`, `Nearest.mask`, `Nearest.work` and `Nearest.hit`.
-/
module

public import proofs.«01_k».proof.Proof.Layer
public import proofs.«01_k».proof.Proof.Gen.KernelIdeal.Value
public import Idealize.ShloMosaic.PureOps.Ideal.Laws
public import Idealize.ShloMosaic.Lib.MatmulPlain
public import Idealize.ShloMosaic.Lib.ValueIdx
public import Idealize.ShloMosaic.Lib.WordCmp
public import Idealize.ShloMosaic.Lib.ValueLayout
public import Idealize.ShloMosaic.Lib.ValueLayoutCasts

@[expose] public section

noncomputable section

namespace Cert.KernelIdeal.Search

open Word Cert.KernelIdeal Cert.KernelIdeal.Gen Idealize.ShloMosaic Idealize.ShloMosaic.ValueIdx
open scoped BigOperators

/-! ## Reading the layout -/

/-- One column broadcast over many reads the column at the row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row's least element, as a reduction over the second axis from `+∞` takes it. -/
theorem least_apply (v : FVec Ideal S512x2048 .f32) (r : Fin 512) :
    multiReduction .minimumf [1] S512 v 0x7F800000#32 reduces_S512x2048_S512 (.inl rfl) rfl (ix1 r)
      = Finset.univ.inf fun j : Fin 2048 => v (ix2 r j) := by
  haveI : Std.Commutative (FloatOps.minimumf (F := Ideal) (φ := .f32)) := ⟨fun a b => min_comm a b⟩
  haveI : Std.Associative (FloatOps.minimumf (F := Ideal) (φ := .f32)) := ⟨fun a b c => min_assoc a b c⟩
  refine (multiReduction_minimumf_eq_fold v _ reduces_S512x2048_S512 _ _ (ix1 r)).trans ?_
  refine (reduces_S512x2048_S512.fold_filter_drop_single _ _ v (ix1 r)).trans ?_
  have hv : v ∘ reduces_S512x2048_S512.lift (ix1 r) = fun j : Fin 2048 => v (ix2 r j) := by
    funext j
    refine congrArg v (funext fun a => Fin.ext ?_)
    match a with
    | ⟨0, _⟩ => rfl
    | ⟨1, _⟩ => rfl
  rw [hv]
  show Finset.fold min (Ideal.ofBits .f32 0x7F800000#32) _ _ = _
  rw [word_top]
  rfl

/-! ## One round -/

/-- The rows' least distances, as a column. -/
def leastCol (v : FVec Ideal S512x2048 .f32) : FVec Ideal S512x1 .f32 :=
  shapeCast S512x1 (multiReduction .minimumf [1] S512 v 0x7F800000#32 reduces_S512x2048_S512 (.inl rfl) rfl)
    shapeCasts_S512_S512x1

/-- A column repeated over the places. -/
def spread (c : FVec Ideal S512x1 .f32) : FVec Ideal S512x2048 .f32 :=
  broadcastTo S512x2048 c broadcasts_S512x1_S512x2048

/-- The first places the rows' least distances stand at, as a column of numbers. -/
def spotCol (v : FVec Ideal S512x2048 .f32) : FVec Ideal S512x1 .f32 :=
  leastCol (select (cmpf .oeq v (spread (leastCol v))) (k0_pay8 (F := Ideal))
    (broadcast S512x2048 (Scalar.ofBits .f32 0x45000000#32)))

/-- The block with `⊤` written at the places found. -/
def maskBlock (v : FVec Ideal S512x2048 .f32) : FVec Ideal S512x2048 .f32 :=
  select (cmpf .oeq (k0_pay8 (F := Ideal)) (spread (spotCol v))) (broadcast S512x2048 (Scalar.ofBits .f32 0x7F800000#32)) v

/-- The block after `k` rounds. -/
def rounds (v : FVec Ideal S512x2048 .f32) : ℕ → FVec Ideal S512x2048 .f32
  | 0 => v
  | k + 1 => maskBlock (rounds v k)

/-- What the places `a` and the least distances `l` contribute for each feature of the table `f`. -/
def share (f : FVec Ideal S2048x64 .f32) (l a : FVec Ideal S512x1 .f32) : FVec Ideal S512x64 .f32 :=
  mulf
    (matmul dot_S512x2048_S2048x64_S512x64_1_0_0_1_n_n none
      (sitofp .f32 (extui 32 (cmpf .oeq (k0_pay8 (F := Ideal)) (spread a)) natLt_1_32) : FVec Ideal S512x2048 .f32) f
      (constant S512x64 .f32 0x00000000#32))
    (broadcastTo S512x64 (exp (mulf (broadcast S512x1 (Scalar.ofBits .f32 0xC1200000#32)) l)) broadcasts_S512x1_S512x64)

/-- What round `k` contributes. -/
def roundShare (f : FVec Ideal S2048x64 .f32) (v : FVec Ideal S512x2048 .f32) (k : ℕ) : FVec Ideal S512x64 .f32 :=
  share f (leastCol (rounds v k)) (spotCol (rounds v k))

/-- The contributions of rounds `1` to `n` added up, from zero. -/
def sums (f : FVec Ideal S2048x64 .f32) (v : FVec Ideal S512x2048 .f32) : ℕ → FVec Ideal S512x64 .f32
  | 0 => broadcast S512x64 (Scalar.ofBits .f32 0x00000000#32)
  | n + 1 => addf (sums f v n) (roundShare f v (n + 1))

/-- The greatest of the contributions of rounds `1` to `n`, from `-∞`. -/
def tops (f : FVec Ideal S2048x64 .f32) (v : FVec Ideal S512x2048 .f32) : ℕ → FVec Ideal S512x64 .f32
  | 0 => broadcast S512x64 (Scalar.subf (Scalar.ofBits .f32 0x00000000#32) (Scalar.ofBits .f32 0x7F800000#32))
  | n + 1 => maximumf (tops f v n) (roundShare f v (n + 1))

/-! ## One round, read at an index -/

/-- The numbers of the places, as the kernel makes them. -/
theorem places_apply (r : Fin 512) (j : Fin 2048) : k0_pay8 (F := Ideal) (ix2 r j) = Nearest.num j := by
  show FloatOps.sitofp .f32 (iota .tc S512x2048 32 [1] iota_S512x2048_d1_w32 (ix2 r j)) = _
  rw [iota_single_apply]
  show (((BitVec.ofNat 32 j.val).toInt : ℝ) : EReal) = ((j.val : ℝ) : EReal)
  have h : (BitVec.ofNat 32 j.val).toInt = (j.val : ℤ) := by
    have := j.isLt
    exact WordCmp.toInt_ofNat_of_lt (by omega)
  rw [h]
  norm_num

/-- A comparison for equality chooses by equality. -/
theorem select_oeq {α : Type} (x y : EReal) (a b : α) :
    Scalar.select (FloatOps.cmpf (F := Ideal) (φ := .f32) .oeq x y) a b = if x = y then a else b := by
  show Scalar.select (BitVec.ofBool (decide (x = y))) a b = _
  by_cases h : x = y
  · rw [if_pos h, decide_eq_true h]; rfl
  · rw [if_neg h, decide_eq_false h]; rfl

/-- Row `r` of the column of least distances. -/
theorem leastCol_apply (v : FVec Ideal S512x2048 .f32) (r : Fin 512) :
    leastCol v (ix2 r 0) = Nearest.low fun j => v (ix2 r j) := by
  unfold leastCol
  rw [shapeCast_a_a1_apply, least_apply]
  rfl

/-- A column repeated along the rows, at `(r, j)`. -/
theorem spread_apply (c : FVec Ideal S512x1 .f32) (r : Fin 512) (j : Fin 2048) : spread c (ix2 r j) = c (ix2 r 0) :=
  broadcastTo_a1_ab_apply c _ r j

/-- Row `r` of the column of first places of the least distance. -/
theorem spotCol_apply (v : FVec Ideal S512x2048 .f32) (r : Fin 512) :
    spotCol v (ix2 r 0) = Nearest.spot fun j => v (ix2 r j) := by
  unfold spotCol
  rw [leastCol_apply]
  refine Finset.inf_congr rfl fun j _ => ?_
  rw [select_apply, cmpf_apply, select_oeq, spread_apply, leastCol_apply, places_apply]
  refine if_congr Iff.rfl rfl ?_
  exact word_2048

/-- One round of masking, read in row `r`. -/
theorem maskBlock_apply (v : FVec Ideal S512x2048 .f32) (r : Fin 512) (j : Fin 2048) :
    maskBlock v (ix2 r j) = Nearest.mask (fun j => v (ix2 r j)) j := by
  unfold maskBlock
  rw [select_apply, cmpf_apply, select_oeq, spread_apply, spotCol_apply, places_apply]
  exact if_congr Iff.rfl word_top rfl

/-- The distances after `k` rounds, read in row `r`. -/
theorem rounds_apply (v : FVec Ideal S512x2048 .f32) (k : ℕ) (r : Fin 512) :
    (fun j => rounds v k (ix2 r j)) = Nearest.work (fun j => v (ix2 r j)) k := by
  induction k with
  | zero => rfl
  | succ k ih =>
    funext j
    show maskBlock (rounds v k) (ix2 r j) = Nearest.mask (Nearest.work (fun j => v (ix2 r j)) k) j
    rw [maskBlock_apply, ih]

/-- The exponential of a column at an index. -/
theorem exp_ideal {s : Shape} (x : FVec Ideal s .f32) (i : s.Idx) : exp x i = Ideal.exp (x i) := rfl

/-- The indicator of a place, as the kernel makes it of a comparison. -/
theorem indicator (x y : EReal) :
    FloatOps.sitofp (F := Ideal) .f32 ((FloatOps.cmpf (F := Ideal) (φ := .f32) .oeq x y).setWidth 32) = if x = y then 1 else 0 := by
  show (((((BitVec.ofBool (decide (x = y))).setWidth 32).toInt : ℤ) : ℝ) : EReal) = _
  by_cases h : x = y
  · rw [if_pos h, decide_eq_true h]; simp
  · rw [if_neg h, decide_eq_false h]; simp

/-- What round `k` contributes to row `r` and column `e`. -/
theorem roundShare_apply (f : FVec Ideal S2048x64 .f32) (v : FVec Ideal S512x2048 .f32) (k : ℕ) (r : Fin 512) (e : Fin 64) :
    roundShare f v k (ix2 r e)
      = Nearest.hit (Nearest.work (fun j => v (ix2 r j)) k) fun j => f (ix2 j e) := by
  unfold roundShare share
  rw [mulf_apply, broadcastTo_a1_ab_apply]
  refine congrArg₂ (· * ·) ?_ ?_
  · refine (Ideal.matmul_plain_apply none _ f _ r e).trans ?_
    rw [constant_apply, Ideal.ofBits_zero_f32, zero_add]
    refine Finset.sum_congr rfl fun j _ => ?_
    rw [sitofp_apply, extui_apply, cmpf_apply, indicator, spread_apply, spotCol_apply, places_apply, rounds_apply]
  · rw [exp_ideal, mulf_apply, broadcast_apply, leastCol_apply, rounds_apply, ofBits_ideal, word_ten, Nearest.weight]

/-- The sum of the contributions of rounds 1 to `n`. -/
theorem sums_apply (f : FVec Ideal S2048x64 .f32) (v : FVec Ideal S512x2048 .f32) (n : ℕ) (r : Fin 512) (e : Fin 64) :
    sums f v n (ix2 r e)
      = ∑ k ∈ Finset.range n, Nearest.hit (Nearest.work (fun j => v (ix2 r j)) (k + 1)) fun j => f (ix2 j e) := by
  induction n with
  | zero => exact Ideal.ofBits_zero_f32
  | succ n ih =>
    rw [Finset.sum_range_succ, ← ih, ← roundShare_apply]
    rfl

/-- The greatest of the contributions of rounds 1 to `n`. -/
theorem tops_apply (f : FVec Ideal S2048x64 .f32) (v : FVec Ideal S512x2048 .f32) (n : ℕ) (r : Fin 512) (e : Fin 64) :
    tops f v n (ix2 r e)
      = (Finset.range n).sup fun k => Nearest.hit (Nearest.work (fun j => v (ix2 r j)) (k + 1)) fun j => f (ix2 j e) := by
  induction n with
  | zero =>
    show Ideal.ofBits .f32 0x00000000#32 - Ideal.ofBits .f32 0x7F800000#32 = ⊥
    rw [Ideal.ofBits_zero_f32, word_top]
    rfl
  | succ n ih =>
    rw [Finset.range_add_one, Finset.sup_insert, ← ih, ← roundShare_apply, sup_comm]
    rfl

end Cert.KernelIdeal.Search
-- ==== Proof.Block.lean ====
/-
  One block of the kernel: what the body leaves in the output's buffer, read at an index, is the layer's `result` of the
  rows in the input windows' buffers.
-/
module

public import proofs.«01_k».proof.Proof.Search

@[expose] public section

noncomputable section

namespace Cert.KernelIdeal.Block

open Word Cert.KernelIdeal Cert.KernelIdeal.Gen Cert.KernelIdeal.Search Idealize.ShloMosaic Idealize.ShloMosaic.ValueIdx
open scoped BigOperators

/-! ## The zeros -/

/-- Two zero offsets, as a function. -/
theorem zero2 : (![0, 0] : Fin 2 → ℕ) = fun _ => 0 := by
  funext a
  match a with
  | ⟨0, _⟩ => rfl
  | ⟨1, _⟩ => rfl

/-- Three zero offsets, as a function. -/
theorem zero3 : (![0, 0, 0] : Fin 3 → ℕ) = fun _ => 0 := by
  funext a
  match a with
  | ⟨0, _⟩ => rfl
  | ⟨1, _⟩ => rfl
  | ⟨2, _⟩ => rfl

/-! ## The body's result, folded -/

/-- The distances of a block: the squared lengths `p` of all points added to `q`, and the absolute value taken. -/
def distances (p : FVec Ideal S2048x1 .f32) (q : FVec Ideal S512x2048 .f32) : FVec Ideal S512x2048 .f32 :=
  absf (addf q (broadcastTo S512x2048 (shapeCast S1x2048 p shapeCasts_S2048x1_S1x2048) broadcasts_S1x2048_S512x2048))

/-- The means: the sums divided by fifteen. -/
def means (s : FVec Ideal S512x64 .f32) : FVec Ideal S512x64 .f32 :=
  divf s (broadcast S512x64 (Scalar.ofBits .f32 0x41700000#32))

variable (x0 : Vec Ideal S1x2048x64 .f32) (x1 : Vec Ideal S1x512x64 .f32) (x2 : Vec Ideal S64x64 .f32)
  (x3 : Vec Ideal S1x64 .f32) (x4 : Vec Ideal S64x4 .f32) (x5 : Vec Ideal S1x4 .f32) (x6 : Vec Ideal S192x128 .f32)
  (x7 : Vec Ideal S1x128 .f32)

/-- The distances from a block's rows to all points. -/
def dist : FVec Ideal S512x2048 .f32 := distances (k0_pay6 x0 x4 x5) (k0_pay7 x0 x1 x4 x5 x4 x5)

/-- The body's result is the last transform of the rows, the means and the greatest values of fifteen rounds. -/
theorem out_folded : out0_8 x0 x1 x2 x3 x4 x5 x6 x7
    = k0_pay1 (k0_pay3 x1) (tops (k0_pay4 x0 x2 x3) (dist x0 x1 x4 x5) 15)
        (means (sums (k0_pay4 x0 x2 x3) (dist x0 x1 x4 x5) 15)) x6 (k0_pay84 x6) x7 := by
  have h : out0_8 x0 x1 x2 x3 x4 x5 x6 x7
      = View.canon [⟨r0_8, k0_pay1 (k0_pay3 (View.ld x1 r0_1))
          (tops (k0_pay4 (View.ld x0 r0_0) (View.ld x2 r0_2) (View.ld x3 r0_3))
            (dist (View.ld x0 r0_0) (View.ld x1 r0_1) (View.ld x4 r0_4) (View.ld x5 r0_5)) 15)
          (means (sums (k0_pay4 (View.ld x0 r0_0) (View.ld x2 r0_2) (View.ld x3 r0_3))
            (dist (View.ld x0 r0_0) (View.ld x1 r0_1) (View.ld x4 r0_4) (View.ld x5 r0_5)) 15))
          (View.ld x6 r0_6) (k0_pay84 (View.ld x6 r0_6)) (View.ld x7 r0_7)⟩] := rfl
  rw [h, View.canon_unit_zero zero3]
  have h0 : View.ld x0 r0_0 = x0 := View.ld_unit_zero zero3 _ x0
  have h1 : View.ld x1 r0_1 = x1 := View.ld_unit_zero zero3 _ x1
  have h2 : View.ld x2 r0_2 = x2 := View.ld_unit_zero zero2 _ x2
  have h3 : View.ld x3 r0_3 = x3 := View.ld_unit_zero zero2 _ x3
  have h4 : View.ld x4 r0_4 = x4 := View.ld_unit_zero zero2 _ x4
  have h5 : View.ld x5 r0_5 = x5 := View.ld_unit_zero zero2 _ x5
  have h6 : View.ld x6 r0_6 = x6 := View.ld_unit_zero zero2 _ x6
  have h7 : View.ld x7 r0_7 = x7 := View.ld_unit_zero zero2 _ x7
  rw [h0, h1, h2, h3, h4, h5, h6, h7]

/-! ## The parts, read at an index -/

/-- The coordinate row of point `j` of a batch. -/
def coords {n : ℕ} (x : (⟨3, ![1, n, 64]⟩ : Shape).Idx → EReal) (j : Fin n) : Fin 4 → EReal :=
  fun s => Layer.affine (fun k => x (ix3 0 j k)) (fun k => x4 (ix2 k s)) (x5 (ix2 0 s))

/-- The block's feature `e` of point `j` is the affine map of the point's row. -/
theorem feature_apply (j : Fin 2048) (e : Fin 64) :
    k0_pay4 x0 x2 x3 (ix2 j e) = Layer.affine (fun k => x0 (ix3 0 j k)) (fun k => x2 (ix2 k e)) (x3 (ix2 0 e)) := by
  unfold k0_pay4 Layer.affine
  dsimp only
  rw [addf_apply, broadcastTo_1b_ab_apply, shapeCast_self]
  refine congrArg (· + _) ((Ideal.matmul_plain_apply none _ x2 _ j e).trans ?_)
  rw [constant_apply, Ideal.ofBits_zero_f32, zero_add]
  refine Finset.sum_congr rfl fun k _ => congrArg (· * _) ?_
  exact shapeCast_1ab_ab_apply x0 _ j k

/-- The block's coordinate `s` of point `j`, among all the batch's points. -/
theorem allCoords_apply (j : Fin 2048) (s : Fin 4) : k0_pay5 x0 x4 x5 (ix2 j s) = coords x4 x5 x0 j s := by
  unfold k0_pay5 coords Layer.affine
  dsimp only
  rw [addf_apply, broadcastTo_1b_ab_apply, shapeCast_self]
  refine congrArg (· + _) ((Ideal.matmul_plain_apply none _ x4 _ j s).trans ?_)
  rw [constant_apply, Ideal.ofBits_zero_f32, zero_add]
  refine Finset.sum_congr rfl fun k _ => congrArg (· * _) ?_
  exact shapeCast_1ab_ab_apply x0 _ j k

/-- The coordinates of a block's own rows. -/
def rowCoords : FVec Ideal S512x4 .f32 :=
  addf (matmul (φ₂ := .f32) dot_S512x64_S64x4_S512x4_1_0_0_1_n_n none (k0_pay3 x1) x4 (constant S512x4 .f32 0x00000000#32))
    (broadcastTo S512x4 (shapeCast S1x4 x5 shapeCasts_S1x4_S1x4) broadcasts_S1x4_S512x4)

/-- The block's coordinate `s` of row `r`, among the rows worked on. -/
theorem rowCoords_apply (r : Fin 512) (s : Fin 4) : rowCoords x1 x4 x5 (ix2 r s) = coords x4 x5 x1 r s := by
  unfold rowCoords coords Layer.affine
  rw [addf_apply, broadcastTo_1b_ab_apply, shapeCast_self]
  refine congrArg (· + _) ((Ideal.matmul_plain_apply none _ x4 _ r s).trans ?_)
  rw [constant_apply, Ideal.ofBits_zero_f32, zero_add]
  refine Finset.sum_congr rfl fun k _ => congrArg (· * _) ?_
  exact shapeCast_1ab_ab_apply x1 _ r k

/-- A column turned into a row reads the column. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (j : Fin a) :
    shapeCast ⟨2, ![1, a]⟩ x h (ix2 u j) = x (ix2 j 0) :=
  shapeCast_apply x h _ _ (by
    have hu : u.val = 0 := by omega
    rw [Shape.rowMajor_val_two, Shape.rowMajor_val_two]
    show j.val * 1 + 0 = u.val * a + j.val
    rw [hu, Nat.zero_mul, Nat.zero_add, Nat.mul_one, Nat.add_zero])

/-- The squared length of point `j`'s coordinates. -/
theorem allSquares_apply (j : Fin 2048) : k0_pay6 x0 x4 x5 (ix2 j 0) = Layer.square (coords x4 x5 x0 j) := by
  unfold k0_pay6 Layer.square
  dsimp only
  rw [shapeCast_a_a1_apply]
  refine (Ideal.multiReduction_add_single _ _ reduces_S2048x4_S2048 _ _ (ix1 j)).trans (Finset.sum_congr rfl fun s _ => ?_)
  have hs : reduces_S2048x4_S2048.lift (ix1 j) s = ix2 j s := by
    funext a
    match a with
    | ⟨0, _⟩ => rfl
    | ⟨1, _⟩ => rfl
  rw [hs]
  exact congrArg₂ (· * ·) (allCoords_apply x0 x4 x5 j s) (allCoords_apply x0 x4 x5 j s)

/-- The squared lengths of a block's own rows. -/
theorem rowSquares_apply (c : FVec Ideal S512x4 .f32) (r : Fin 512) :
    multiReduction .add [1] S512 (mulf c c) 0x00000000#32 reduces_S512x4_S512 (.inl rfl) rfl (ix1 r)
      = Layer.square fun s => c (ix2 r s) := by
  refine (Ideal.multiReduction_add_single _ _ reduces_S512x4_S512 _ _ (ix1 r)).trans (Finset.sum_congr rfl fun s _ => ?_)
  have hs : reduces_S512x4_S512.lift (ix1 r) s = ix2 r s := by
    funext a
    match a with
    | ⟨0, _⟩ => rfl
    | ⟨1, _⟩ => rfl
  rw [hs]
  rfl

/-- The block's distance from row `r` to point `j` is the layer's `gap`. -/
theorem dist_apply (r : Fin 512) (j : Fin 2048) :
    dist x0 x1 x4 x5 (ix2 r j) = Layer.gap (coords x4 x5 x1 r) (coords x4 x5 x0 j) := by
  have h : addf (k0_pay7 x0 x1 x4 x5 x4 x5)
      (broadcastTo S512x2048 (shapeCast S1x2048 (k0_pay6 x0 x4 x5) shapeCasts_S2048x1_S1x2048) broadcasts_S1x2048_S512x2048)
      (ix2 r j) = Layer.rawGap (coords x4 x5 x1 r) (coords x4 x5 x0 j) := by
    unfold Layer.rawGap
    rw [addf_apply, broadcastTo_1b_ab_apply, shapeCast_a1_1a_apply, allSquares_apply]
    refine congrArg (· + _) ?_
    have h7 : k0_pay7 x0 x1 x4 x5 x4 x5
        = addf (mulf (broadcast S512x2048 (Scalar.ofBits .f32 0xC0000000#32))
            (matmul dot_S512x4_S2048x4_S512x2048_1_1_0_0_n_n none (rowCoords x1 x4 x5) (k0_pay5 x0 x4 x5)
              (constant S512x2048 .f32 0x00000000#32)))
            (broadcastTo S512x2048 (shapeCast S512x1 (multiReduction .add [1] S512
              (mulf (rowCoords x1 x4 x5) (rowCoords x1 x4 x5)) 0x00000000#32 reduces_S512x4_S512 (.inl rfl) rfl)
              shapeCasts_S512_S512x1) broadcasts_S512x1_S512x2048) := rfl
    rw [h7, addf_apply, mulf_apply, broadcast_apply, ofBits_ideal, word_two, broadcastTo_a1_ab_apply,
      shapeCast_a_a1_apply]
    have hc : (fun s => rowCoords x1 x4 x5 (ix2 r s)) = coords x4 x5 x1 r := funext fun s => rowCoords_apply x1 x4 x5 r s
    refine congrArg₂ (· + ·) (congrArg (((-2 : ℝ) : EReal) * ·) ?_) ((rowSquares_apply _ r).trans (congrArg _ hc))
    refine (Ideal.matmul_transposedRhs_apply none _ (k0_pay5 x0 x4 x5) _ r j).trans ?_
    rw [constant_apply, Ideal.ofBits_zero_f32, zero_add]
    refine Finset.sum_congr rfl fun s _ => ?_
    rw [rowCoords_apply, allCoords_apply]
  exact congrArg (fun v : EReal => max v (-v)) h

/-! ## The block -/

/-- One of the three products of the last transform: the table `y` times the rows of `x6` from `o` on. -/
theorem part_apply (y : FVec Ideal S512x64 .f32) (o : ℕ) (ho : o + 64 ≤ 192) (h : S192x128.Slices ![o, 0] S64x128)
    (r : Fin 512) (c : Fin 128) :
    matmul dot_S512x64_S64x128_S512x128_1_0_0_1_n_n none y (extractStridedSlice S64x128 ![o, 0] x6 h : FVec Ideal S64x128 .f32)
      (constant S512x128 .f32 0x00000000#32) (ix2 r c)
      = ∑ k : Fin 64, y (ix2 r k) * x6 (ix2 ⟨o + k.val, by omega⟩ c) := by
  refine (Ideal.matmul_plain_apply none y _ _ r c).trans ?_
  rw [constant_apply, Ideal.ofBits_zero_f32, zero_add]
  refine Finset.sum_congr rfl fun k _ => congrArg (_ * ·) ?_
  exact slice2_axis0_apply o x6 h k c ⟨o + k.val, by omega⟩ rfl

/-- What the body leaves at row `r`, column `c` is the layer's result for the block's row `r`. -/
theorem out_apply (r : Fin 512) (c : Fin 128) :
    out0_8 x0 x1 x2 x3 x4 x5 x6 x7 (ix3 0 r c)
      = Layer.result (fun k => x1 (ix3 0 r k))
          (fun j e => Layer.affine (fun k => x0 (ix3 0 j k)) (fun k => x2 (ix2 k e)) (x3 (ix2 0 e)))
          (fun j => Layer.gap (coords x4 x5 x1 r) (coords x4 x5 x0 j))
          (fun k => x6 (ix2 k c)) (x7 (ix2 0 c)) := by
  rw [out_folded]
  unfold k0_pay1 k0_pay84
  dsimp only
  rw [shapeCast_ab_1ab_apply, addf_apply, addf_apply, addf_apply, broadcastTo_1b_ab_apply, shapeCast_self,
    part_apply x6 _ 0 (by omega), part_apply x6 _ 64 (by omega), part_apply x6 _ 128 (by omega)]
  unfold Layer.result
  have hd : (fun j => dist x0 x1 x4 x5 (ix2 r j))
      = fun j => Layer.gap (coords x4 x5 x1 r) (coords x4 x5 x0 j) := funext fun j => dist_apply x0 x1 x4 x5 r j
  have hf (e : Fin 64) : (fun j => k0_pay4 x0 x2 x3 (ix2 j e))
      = fun j => Layer.affine (fun k => x0 (ix3 0 j k)) (fun k => x2 (ix2 k e)) (x3 (ix2 0 e)) :=
    funext fun j => feature_apply x0 x2 x3 j e
  refine congrArg (· + _) (congrArg₂ (· + ·) (congrArg₂ (· + ·) ?_ ?_) ?_)
  · refine Finset.sum_congr rfl fun k _ => congrArg₂ (· * ·) (shapeCast_1ab_ab_apply x1 _ r k) ?_
    exact congrArg (fun n => x6 (ix2 n c)) (Fin.ext (Nat.zero_add k.val))
  · refine Finset.sum_congr rfl fun k _ => congrArg (· * _) ?_
    unfold means
    rw [divf_apply, broadcast_apply, ofBits_ideal, word_fifteen, sums_apply, hd, hf]
    rfl
  · refine Finset.sum_congr rfl fun k _ => congrArg (· * _) ?_
    rw [tops_apply, hd, hf]
    rfl

end Cert.KernelIdeal.Block
-- ==== Proof.Array.lean ====
/-
  The kernel's whole result array: every block the body leaves is the layer's `output` there, and the blocks cover the
  array.
-/
module

public import proofs.«01_k».proof.Proof.Block
public import proofs.«01_k».proof.Proof.Gen.KernelIdeal.Value
public import Idealize.ShloMosaic.Lib.Pipeline.ValueKit.Geometry
public import Idealize.ShloMosaic.Lib.StableHlo.Run

@[expose] public section

noncomputable section

namespace Cert.KernelIdeal.Whole

open Layer Cert.KernelIdeal Cert.KernelIdeal.Gen Idealize.ShloMosaic Idealize.ShloMosaic.TcCoe
  Idealize.ShloMosaic.ValueIdx

variable (m : (ℓ : Loc nD τ sig) → Buf (Elt Ideal) ℓ) (c : Dev nD)

/-! ## The biases as the kernel finds them -/

/-- The features' bias is handed over as one row. -/
theorem bias_feature (e : Fin 64) :
    V m c main_v0 (ix2 (0 : Fin 1) e) = m ((c : Thread nD τ).loc main_arg2) (ix1 e) := by
  have h : V m c main_v0 = fun i => shapeCast S1x64 (m ((c : Thread nD τ).loc main_arg2)) shapeCasts_S64_S1x64 i := by
    show StableHlo.after hostOps0 _ (Proc.devRef .tc main_v0) = _
    after_results
    rfl
  exact (congrFun h _).trans (shapeCast_a_1a_apply _ _ _ _)

/-- The coordinates' bias is handed over as one row. -/
theorem bias_coords (s : Fin 4) :
    V m c main_v1 (ix2 (0 : Fin 1) s) = m ((c : Thread nD τ).loc main_arg4) (ix1 s) := by
  have h : V m c main_v1 = fun i => shapeCast S1x4 (m ((c : Thread nD τ).loc main_arg4)) shapeCasts_S4_S1x4 i := by
    show StableHlo.after hostOps0 _ (Proc.devRef .tc main_v1) = _
    after_results
    rfl
  exact (congrFun h _).trans (shapeCast_a_1a_apply _ _ _ _)

/-- The output's bias is handed over as one row. -/
theorem bias_output (k : Fin 128) :
    V m c main_v2 (ix2 (0 : Fin 1) k) = m ((c : Thread nD τ).loc main_arg6) (ix1 k) := by
  have h : V m c main_v2 = fun i => shapeCast S1x128 (m ((c : Thread nD τ).loc main_arg6)) shapeCasts_S128_S1x128 i := by
    show StableHlo.after hostOps0 _ (Proc.devRef .tc main_v2) = _
    after_results
    rfl
  exact (congrFun h _).trans (shapeCast_a_1a_apply _ _ _ _)

/-! ## Where the blocks lie -/

/-- The batch that point `t` of the grid works for. -/
def batch (t : Fin cfg0.N) : Fin 8 := grid0.coords t 0

/-- The block of that batch's rows that point `t` works on. -/
def part (t : Fin cfg0.N) : Fin 4 := grid0.coords t 1

/-- Row `r` of point `t`'s block, in its batch. -/
def point (t : Fin cfg0.N) (r : Fin 512) : Fin 2048 := ⟨(part t).val * 512 + r.val, by have := (part t).isLt; omega⟩

/-- Window 0's block at point `t` is the point's batch. -/
theorem index0 : ∀ t : Fin cfg0.N, win0_0.index t = ![(batch t).val, 0, 0] :=
  (by decide +kernel : ∀ t : Fin grid0.N, win0_0.index t = ![(grid0.coords t 0).val, 0, 0])

/-- Window 1's block at point `t` is the point's block of rows in its batch. -/
theorem index1 : ∀ t : Fin cfg0.N, win0_1.index t = ![(batch t).val, (part t).val, 0] :=
  (by decide +kernel : ∀ t : Fin grid0.N, win0_1.index t = ![(grid0.coords t 0).val, (grid0.coords t 1).val, 0])

/-- Window 8's block at point `t` is the point's block of rows in its batch. -/
theorem index8 : ∀ t : Fin cfg0.N, win0_8.index t = ![(batch t).val, (part t).val, 0] :=
  (by decide +kernel : ∀ t : Fin grid0.N, win0_8.index t = ![(grid0.coords t 0).val, (grid0.coords t 1).val, 0])

/-- The windows of the weights and the biases stay at their arrays' start. -/
theorem index_weights : ∀ t : Fin cfg0.N, win0_2.index t = ![0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, win0_2.index t = ![0, 0] ∧ win0_3.index t = ![0, 0] ∧ win0_4.index t = ![0, 0]
    ∧ win0_5.index t = ![0, 0] ∧ win0_6.index t = ![0, 0] ∧ win0_7.index t = ![0, 0])

/-! ## The input blocks -/

/-- The batch's block of `x`: all its rows. -/
theorem block_batch (t : Fin cfg0.N) (j : Fin 2048) (k : Fin 64) :
    iblk m c 0 t (ix3 (0 : Fin 1) j k) = m ((c : Thread nD τ).loc main_arg0) (ix3 (batch t) j k) := by
  blk_simp [iblk]
  rw [V_main_arg0]
  refine congrArg _ ?_
  blk_ext [index0 t]

/-- The block of rows the results are for. -/
theorem block_rows (t : Fin cfg0.N) (r : Fin 512) (k : Fin 64) :
    iblk m c 1 t (ix3 (0 : Fin 1) r k) = m ((c : Thread nD τ).loc main_arg0) (ix3 (batch t) (point t r) k) := by
  blk_simp [iblk]
  rw [V_main_arg0]
  refine congrArg _ ?_
  blk_ext [index1 t, point]

/-- The features' weights, whole. -/
theorem block_feature (t : Fin cfg0.N) (k e : Fin 64) :
    iblk m c 2 t (ix2 k e) = m ((c : Thread nD τ).loc main_arg1) (ix2 k e) := by
  blk_simp [iblk]
  rw [V_main_arg1]
  refine congrArg _ ?_
  blk_ext [(index_weights t).1]

/-- The features' bias, whole. -/
theorem block_feature_bias (t : Fin cfg0.N) (e : Fin 64) :
    iblk m c 3 t (ix2 (0 : Fin 1) e) = m ((c : Thread nD τ).loc main_arg2) (ix1 e) := by
  refine Eq.trans ?_ (bias_feature m c e)
  blk_simp [iblk]
  refine congrArg _ ?_
  blk_ext [(index_weights t).2.1]

/-- The coordinates' weights, whole. -/
theorem block_coords (t : Fin cfg0.N) (k : Fin 64) (s : Fin 4) :
    iblk m c 4 t (ix2 k s) = m ((c : Thread nD τ).loc main_arg3) (ix2 k s) := by
  blk_simp [iblk]
  rw [V_main_arg3]
  refine congrArg _ ?_
  blk_ext [(index_weights t).2.2.1]

/-- The coordinates' bias, whole. -/
theorem block_coords_bias (t : Fin cfg0.N) (s : Fin 4) :
    iblk m c 5 t (ix2 (0 : Fin 1) s) = m ((c : Thread nD τ).loc main_arg4) (ix1 s) := by
  refine Eq.trans ?_ (bias_coords m c s)
  blk_simp [iblk]
  refine congrArg _ ?_
  blk_ext [(index_weights t).2.2.2.1]

/-- The output's weights, whole. -/
theorem block_output (t : Fin cfg0.N) (k : Fin 192) (e : Fin 128) :
    iblk m c 6 t (ix2 k e) = m ((c : Thread nD τ).loc main_arg5) (ix2 k e) := by
  blk_simp [iblk]
  rw [V_main_arg5]
  refine congrArg _ ?_
  blk_ext [(index_weights t).2.2.2.2.1]

/-- The output's bias, whole. -/
theorem block_output_bias (t : Fin cfg0.N) (e : Fin 128) :
    iblk m c 7 t (ix2 (0 : Fin 1) e) = m ((c : Thread nD τ).loc main_arg6) (ix1 e) := by
  refine Eq.trans ?_ (bias_output m c e)
  blk_simp [iblk]
  refine congrArg _ ?_
  blk_ext [(index_weights t).2.2.2.2.2]

/-! ## The output array -/

/-- The layer's result on the kernel's arguments. -/
def answer : (⟨3, ![8, 2048, 128]⟩ : Shape).Idx → EReal :=
  output (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What the body leaves at point `t`, in row `r` and column `e`, is the layer's result there. -/
theorem left_apply (t : Fin cfg0.N) (r : Fin 512) (e : Fin 128) :
    out0_8 (iblk m c 0 t) (iblk m c 1 t) (iblk m c 2 t) (iblk m c 3 t) (iblk m c 4 t) (iblk m c 5 t) (iblk m c 6 t)
        (iblk m c 7 t) (ix3 (0 : Fin 1) r e)
      = answer m c (ix3 (batch t) (point t r) e) := by
  refine (Block.out_apply _ _ _ _ _ _ _ _ r e).trans ?_
  unfold Block.coords
  simp only [block_batch, block_rows, block_feature, block_feature_bias, block_coords, block_coords_bias,
    block_output, block_output_bias]
  rfl

/-- After the run the result array is the layer's result. -/
theorem array_eq : (dats m 0 c).arrAt 8 cfg0.N = answer m c := by
  refine (dats m 0 c).arrAt_eq_of_covers 8 _ (by decide +kernel) fun t _ y => ?_
  blk_simp
  rw [after0_8]
  have hy : y = ix3 (0 : Fin 1) (y 1) (y 2) := by
    have h0 : y 0 = (0 : Fin 1) := Subsingleton.elim (α := Fin 1) _ _
    exact (eq_ix3 y).trans (congrArg (fun u : Fin 1 => ix3 u (y 1) (y 2)) h0)
  rw [hy]
  refine (left_apply m c t (y 1) (y 2)).trans (congrArg _ ?_)
  blk_ext [index8 t, point]

end Cert.KernelIdeal.Whole

end
-- ==== Proof.Selection.lean ====
/-
  How the reference selects: the stable sort along an array's last axis, its first positions with their places, and the
  rows a batched gather reads, each read at an index.
-/
module

public import proofs.«01_k».proof.Proof.Layer
public import proofs.«01_k».proof.Proof.Gen.ReferenceIdeal.Read
public import Idealize.ShloMosaic.Lib.WordCmp

@[expose] public section

noncomputable section

namespace Cert.ReferenceIdeal.Selection

open Cert.ReferenceIdeal Idealize.ShloMosaic Idealize.ShloMosaic.ValueIdx

variable {α β : Type} {m n l : ℕ}

/-- The last axis of a rank-3 shape. -/
abbrev last3 (m n l : ℕ) : Fin (⟨3, ![m, n, l]⟩ : Shape).rank := ⟨2, (by decide : 2 < 3)⟩

/-- The index through `(b, p, t)` along the last axis, at position `k`. -/
theorem along_last (b : Fin m) (p : Fin n) (t k : Fin l) :
    Shape.Idx.along (s := ⟨3, ![m, n, l]⟩) (ix3 b p t) (last3 m n l) k = ix3 b p k := by
  funext a
  match a with
  | ⟨0, _⟩ => rfl
  | ⟨1, _⟩ => rfl
  | ⟨2, _⟩ => rfl

/-- The place whose element a stable sort of the last axis under `gt` puts at `t`. -/
def placed (gt : α → α → BitVec 1) (x : (⟨3, ![m, n, l]⟩ : Shape).Idx → α) (b : Fin m) (p : Fin n) : Fin l → Fin l :=
  sortedFrom fun k k' => gt (x (ix3 b p k)) (x (ix3 b p k')) == 1#1

/-- A sort of the last axis carrying a second array moves both arrays alike. -/
theorem sort2_apply (gt : α → α → BitVec 1) (x : (⟨3, ![m, n, l]⟩ : Shape).Idx → α)
    (y : (⟨3, ![m, n, l]⟩ : Shape).Idx → β) (b : Fin m) (p : Fin n) (t : Fin l) :
    (Host.sort2 ⟨3, ![m, n, l]⟩ 2 (fun u v => gt u.1 v.1) x y).1 (ix3 b p t) = x (ix3 b p (placed gt x b p t))
      ∧ (Host.sort2 ⟨3, ![m, n, l]⟩ 2 (fun u v => gt u.1 v.1) x y).2 (ix3 b p t) = y (ix3 b p (placed gt x b p t)) := by
  have hs : (sortedFrom (n := l) fun k k' =>
      gt (x (Shape.Idx.along (s := ⟨3, ![m, n, l]⟩) (ix3 b p t) (last3 m n l) k))
        (x (Shape.Idx.along (s := ⟨3, ![m, n, l]⟩) (ix3 b p t) (last3 m n l) k')) == 1#1) = placed gt x b p := by
    unfold placed
    refine congrArg _ (funext fun k => funext fun k' => ?_)
    rw [along_last, along_last]
  have hj : Shape.Idx.along (s := ⟨3, ![m, n, l]⟩) (ix3 b p t) (last3 m n l)
      ((sortedFrom (n := l) fun k k' =>
        gt (x (Shape.Idx.along (s := ⟨3, ![m, n, l]⟩) (ix3 b p t) (last3 m n l) k))
          (x (Shape.Idx.along (s := ⟨3, ![m, n, l]⟩) (ix3 b p t) (last3 m n l) k')) == 1#1) t)
      = ix3 b p (placed gt x b p t) := by rw [hs, along_last]
  unfold Host.sort2
  rw [dif_pos (show 2 < (⟨3, ![m, n, l]⟩ : Shape).rank from (by decide : 2 < 3))]
  exact ⟨congrArg x hj, congrArg y hj⟩

/-- A place among the first sixteen, as one of all. -/
abbrev early (t : Fin 16) : Fin 2048 := ⟨t.val, by omega⟩

/-- The first sixteen of a row, greater first, and their places as words. -/
theorem topK_apply (gt : α → α → BitVec 1) (x : S8x2048x2048.Idx → α) (h : S8x2048x2048.Slices (fun _ => 0) S8x2048x16)
    (b : Fin 8) (p : Fin 2048) (t : Fin 16) :
    (Host.topK S8x2048x16 2 gt x h).1 (ix3 b p t) = x (ix3 b p (placed gt x b p (early t)))
      ∧ (Host.topK S8x2048x16 2 gt x h).2 (ix3 b p t) = BitVec.ofNat 32 (placed gt x b p (early t)).val := by
  unfold Host.topK
  have hi : ∀ a : Fin S8x2048x2048.rank, ((ix3 b p (early t) : S8x2048x2048.Idx) a).val
      = 0 + ((ix3 b p t : S8x2048x16.Idx) (a.cast h.1.symm)).val := fun a => by
    match a with
    | ⟨0, _⟩ => exact (Nat.zero_add _).symm
    | ⟨1, _⟩ => exact (Nat.zero_add _).symm
    | ⟨2, _⟩ => exact (Nat.zero_add _).symm
  have hs := sort2_apply gt x (fun i => if hd : 2 < S8x2048x2048.rank then iotaInDim S8x2048x2048 32 ⟨2, hd⟩ i else 0#32)
    b p (early t)
  constructor
  · exact (extractStridedSlice_apply _ _ h _ (ix3 b p (early t)) hi).trans hs.1
  · refine (extractStridedSlice_apply _ _ h _ (ix3 b p (early t)) hi).trans (hs.2.trans ?_)
    rw [dif_pos (show 2 < S8x2048x2048.rank by decide)]
    rfl

/-- The gather of one row of 64 per start index, batch by batch: the row the index names, read signed and clamped. -/
theorem gather_apply (x : S8x2048x64.Idx → α) (idx : IVec S8x2048x15x1 32) (b : Fin 8) (p : Fin 2048) (k : Fin 15)
    (e : Fin 64) :
    Host.gather gather_S8x2048x64_S8x2048x15x1_S8x2048x15x64_3_1_0_0_1_3_1164 x idx (ix4 b p k e)
      = x (ix3 b ⟨min (idx (ix4 b p k 0)).toInt.toNat 2047, by omega⟩ e) := by
  unfold Host.gather
  refine congrArg x (funext fun a => Fin.ext ?_)
  let d := gather_S8x2048x64_S8x2048x15x1_S8x2048x15x64_3_1_0_0_1_3_1164
  show d.start (ix4 b p k e) idx a + d.batchCoord (ix4 b p k e) a + d.offCoord (ix4 b p k e) a = _
  match a with
  | ⟨0, h0⟩ =>
    rw [show d.start (ix4 b p k e) idx ⟨0, h0⟩ = 0 from rfl, show d.offCoord (ix4 b p k e) ⟨0, h0⟩ = 0 from rfl,
      show d.batchCoord (ix4 b p k e) ⟨0, h0⟩ = b.val from rfl]
    show 0 + b.val + 0 = b.val
    omega
  | ⟨1, h1⟩ =>
    rw [show d.batchCoord (ix4 b p k e) ⟨1, h1⟩ = 0 from rfl, show d.offCoord (ix4 b p k e) ⟨1, h1⟩ = 0 from rfl]
    unfold GatherDims.start
    rw [dif_pos (show (⟨1, h1⟩ : Fin 3) ∈ d.startIndexMap from List.mem_singleton.mpr rfl)]
    have hsi : d.siIdx (ix4 b p k e) ⟨List.idxOf (⟨1, h1⟩ : Fin 3) d.startIndexMap,
        List.idxOf_lt_length_iff.2 (List.mem_singleton.mpr rfl)⟩ = ix4 b p k 0 := by
      funext c
      refine Fin.ext ?_
      match c with
      | ⟨0, _⟩ => rfl
      | ⟨1, _⟩ => rfl
      | ⟨2, _⟩ => rfl
      | ⟨3, _⟩ => rfl
    rw [hsi]
    rfl
  | ⟨2, h2⟩ =>
    rw [show d.start (ix4 b p k e) idx ⟨2, h2⟩ = 0 from rfl, show d.batchCoord (ix4 b p k e) ⟨2, h2⟩ = 0 from rfl,
      show d.offCoord (ix4 b p k e) ⟨2, h2⟩ = e.val from rfl]
    show 0 + 0 + e.val = e.val
    omega

/-- A place's word is a row number already: it is not negative, so nothing is added to it. -/
theorem fix_place (q : Fin 2048) :
    Scalar.select (IntOp.cmpi .slt (BitVec.ofNat 32 q.val) 0#32) (IntOp.addi (BitVec.ofNat 32 q.val) 2048#32)
      (BitVec.ofNat 32 q.val) = BitVec.ofNat 32 q.val := by
  have hq := q.isLt
  have ht : (BitVec.ofNat 32 q.val).toInt = (q.val : ℤ) := WordCmp.toInt_ofNat_of_lt (by omega)
  have hc : IntOp.cmpi .slt (BitVec.ofNat 32 q.val) 0#32 = 0#1 := by
    rw [WordCmp.cmpi_slt_eq, ht, decide_eq_false (by simp)]
    rfl
  rw [hc, select_zero]

/-- A place's word, read signed and clamped, is the place. -/
theorem row_of_place (q : Fin 2048) : min (BitVec.ofNat 32 q.val).toInt.toNat 2047 = q.val := by
  have hq := q.isLt
  have ht : (BitVec.ofNat 32 q.val).toInt = (q.val : ℤ) := WordCmp.toInt_ofNat_of_lt (by omega)
  rw [ht, Int.toNat_natCast]
  omega

/-- The gather at a start index that is a place's word reads the place's row. -/
theorem gather_place (x : S8x2048x64.Idx → α) (idx : IVec S8x2048x15x1 32) (b : Fin 8) (p : Fin 2048) (k : Fin 15)
    (e : Fin 64) (q : Fin 2048) (hq : idx (ix4 b p k 0) = BitVec.ofNat 32 q.val) :
    Host.gather gather_S8x2048x64_S8x2048x15x1_S8x2048x15x64_3_1_0_0_1_3_1164 x idx (ix4 b p k e) = x (ix3 b q e) := by
  rw [gather_apply]
  have hr : (⟨min (idx (ix4 b p k 0)).toInt.toNat 2047, by omega⟩ : Fin 2048) = q :=
    Fin.ext ((congrArg (fun z : BitVec 32 => min z.toInt.toNat 2047) hq).trans (row_of_place q))
  rw [hr]

end Cert.ReferenceIdeal.Selection
-- ==== Proof.Reference.lean ====
/-
  What the reference computes, read at an index: the layer's `result` of the point's row. The reference sorts a point's
  2048 distances once; place `k + 1` of the stable order is what round `k + 1` of `Nearest` takes.
-/
module

public import proofs.«01_k».proof.Proof.Selection

@[expose] public section

noncomputable section

namespace Cert.ReferenceIdeal.Entry

open Word Cert.ReferenceIdeal Cert.ReferenceIdeal.Gen Cert.ReferenceIdeal.Read Cert.ReferenceIdeal.Selection Idealize.ShloMosaic
  Idealize.ShloMosaic.ValueIdx Layer
open scoped BigOperators

variable (x0 : FVec Ideal S8x2048x64 .f32) (x1 : FVec Ideal S64x64 .f32) (x2 : FVec Ideal S64 .f32)
  (x3 : FVec Ideal S64x4 .f32) (x4 : FVec Ideal S4 .f32) (x5 : FVec Ideal S192x128 .f32) (x6 : FVec Ideal S128 .f32)

/-! ## Features, coordinates, distances -/

/-- The reference's features are the layer's. -/
theorem feature_eq (b : Fin 8) (p : Fin 2048) (e : Fin 64) :
    val_main_v3 (F := Ideal) x0 x1 x2 (ix3 b p e) = feature x0 x1 x2 b p e := by
  rw [val_main_v3_apply, val_main_v0_apply, val_main_v2_apply, val_main_v1_apply]
  unfold feature affine row
  refine congrArg₂ (· + ·) (Finset.sum_congr rfl fun k _ => congrArg₂ (· * ·) (congrArg x0 ?_) (congrArg x1 ?_))
    (congrArg x2 ?_)
  · funext a
    match a with
    | ⟨0, _⟩ => rfl
    | ⟨1, _⟩ => rfl
    | ⟨2, _⟩ => rfl
  · funext a
    match a with
    | ⟨0, _⟩ => rfl
    | ⟨1, _⟩ => rfl
  · funext a
    match a with
    | ⟨0, _⟩ => rfl

/-- The reference's coordinates are the layer's. -/
theorem coords_eq (b : Fin 8) (p : Fin 2048) (s : Fin 4) :
    val_main_v7 (F := Ideal) x0 x3 x4 (ix3 b p s) = coords x0 x3 x4 b p s := by
  rw [val_main_v7_apply, val_main_v4_apply, val_main_v6_apply, val_main_v5_apply]
  unfold coords affine row
  refine congrArg₂ (· + ·) (Finset.sum_congr rfl fun k _ => congrArg₂ (· * ·) (congrArg x0 ?_) (congrArg x3 ?_))
    (congrArg x4 ?_)
  · funext a
    match a with
    | ⟨0, _⟩ => rfl
    | ⟨1, _⟩ => rfl
    | ⟨2, _⟩ => rfl
  · funext a
    match a with
    | ⟨0, _⟩ => rfl
    | ⟨1, _⟩ => rfl
  · funext a
    match a with
    | ⟨0, _⟩ => rfl

/-- The coordinates at an index given by its three coordinates. -/
theorem coords_at (i : S8x2048x4.Idx) (b : Fin 8) (p : Fin 2048) (s : Fin 4) (h : i = ix3 b p s) :
    val_main_v7 (F := Ideal) x0 x3 x4 i = coords x0 x3 x4 b p s := by rw [h, coords_eq]

/-- The squared length of the point the distance is from, repeated along the row. -/
theorem square_row_eq (b : Fin 8) (p j : Fin 2048) :
    val_main_v17 (F := Ideal) x0 x3 x4 (ix3 b p j) = Layer.square (coords x0 x3 x4 b p) := by
  rw [val_main_v17_apply, val_main_v13_apply, val_main_v12_apply, val_main_cst_0_apply]
  refine (congrArg (· + _) Ideal.ofBits_zero_f32).trans ((zero_add _).trans (Finset.sum_congr rfl fun s _ => ?_))
  have h := coords_at x0 x3 x4 (idx_main_v12 (idx_main_v13 (idx_main_v17 (ix3 b p j))) s) b p s (by
    funext a
    match a with
    | ⟨0, _⟩ => rfl
    | ⟨1, _⟩ => rfl
    | ⟨2, _⟩ => rfl)
  rw [val_main_v11_apply, h]
  rfl

/-- The squared length of the point the distance is to, repeated along the column. -/
theorem square_column_eq (b : Fin 8) (p j : Fin 2048) :
    val_main_v19 (F := Ideal) x0 x3 x4 (ix3 b p j) = Layer.square (coords x0 x3 x4 b j) := by
  rw [val_main_v19_apply, val_main_v16_apply, val_main_v15_apply, val_main_cst_1_apply]
  refine (congrArg (· + _) Ideal.ofBits_zero_f32).trans ((zero_add _).trans (Finset.sum_congr rfl fun s _ => ?_))
  have h := coords_at x0 x3 x4 (idx_main_v15 (idx_main_v16 (idx_main_v19 (ix3 b p j))) s) b j s (by
    funext a
    match a with
    | ⟨0, _⟩ => rfl
    | ⟨1, _⟩ => rfl
    | ⟨2, _⟩ => rfl)
  rw [val_main_v14_apply, h]
  rfl

/-- The reference's inner product of two points' coordinates. -/
theorem product_eq (b : Fin 8) (p j : Fin 2048) :
    val_main_v8 (F := Ideal) x0 x3 x4 (ix3 b p j) = ∑ s, coords x0 x3 x4 b p s * coords x0 x3 x4 b j s := by
  rw [val_main_v8_apply]
  refine Finset.sum_congr rfl fun s _ => congrArg₂ (· * ·) (coords_at x0 x3 x4 _ b p s ?_) (coords_at x0 x3 x4 _ b j s ?_)
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

/-- The reference's distances are the layer's. -/
theorem gaps_eq (b : Fin 8) (p j : Fin 2048) :
    val_main_v21 (F := Ideal) x0 x3 x4 (ix3 b p j) = gaps x0 x3 x4 b p j := by
  have h : val_main_v20 (F := Ideal) x0 x3 x4 (ix3 b p j)
      = Layer.rawGap (coords x0 x3 x4 b p) (coords x0 x3 x4 b j) := by
    rw [val_main_v20_apply, val_main_v18_apply, val_main_v10_apply, square_row_eq, square_column_eq, product_eq,
      val_main_v9_apply, val_main_cst_apply]
    unfold Layer.rawGap
    exact congrArg (fun v : EReal => (v * _ + _) + _) word_two
  rw [val_main_v21_apply, h]
  rfl

/-! ## The fifteen points -/

/-- The point at place `t` of the stable order of a point's distances, nearest first. -/
def ordered (b : Fin 8) (p : Fin 2048) : Fin 2048 → Fin 2048 :=
  placed (FloatOps.cmpfTotal (F := Ideal) (φ := .f32) .gt) (val_main_v22 (F := Ideal) x0 x3 x4) b p

/-- The sort's order, of the negated distances, greater first, is the distances' order. -/
theorem order_iff (b : Fin 8) (p i j : Fin 2048) :
    (FloatOps.cmpfTotal (F := Ideal) (φ := .f32) .gt (val_main_v22 (F := Ideal) x0 x3 x4 (ix3 b p i))
      (val_main_v22 (F := Ideal) x0 x3 x4 (ix3 b p j)) == 1#1) = true ↔ gaps x0 x3 x4 b p i < gaps x0 x3 x4 b p j := by
  rw [val_main_v22_apply, val_main_v22_apply, gaps_eq, gaps_eq]
  show (BitVec.ofBool (decide (-gaps x0 x3 x4 b p j < -gaps x0 x3 x4 b p i)) == 1#1) = true ↔ _
  have hn : -gaps x0 x3 x4 b p j < -gaps x0 x3 x4 b p i ↔ gaps x0 x3 x4 b p i < gaps x0 x3 x4 b p j :=
    EReal.neg_lt_neg_iff
  by_cases h : gaps x0 x3 x4 b p i < gaps x0 x3 x4 b p j
  · rw [decide_eq_true (hn.mpr h)]
    exact ⟨fun _ => h, fun _ => rfl⟩
  · rw [decide_eq_false fun g => h (hn.mp g)]
    exact ⟨fun g => absurd g (by decide), fun g => absurd g h⟩

/-- What round `k` takes of `g` is `g` at place `k` of the order, times its weight. -/
theorem hit_ordered (b : Fin 8) (p k : Fin 2048) (g : Fin 2048 → EReal) :
    Nearest.hit (Nearest.work (gaps x0 x3 x4 b p) k.val) g
      = g (ordered x0 x3 x4 b p k) * Nearest.weight (gaps x0 x3 x4 b p (ordered x0 x3 x4 b p k)) :=
  Nearest.hit_work (sortedFrom_injective _) (sortedFrom_surjective _)
    (fun i j h => Nearest.sortedFrom_before (gaps x0 x3 x4 b p) _ (order_iff x0 x3 x4 b p) i j h) g k

/-- Place `k + 1`, of fifteen. -/
abbrev nth (k : Fin 15) : Fin 2048 := ⟨k.val + 1, by omega⟩

/-- The place of the neighbour `k` is the place the sort puts at `k + 1`. -/
theorem place_eq (b : Fin 8) (p : Fin 2048) (k : Fin 15) :
    val_main_v23 (F := Ideal) x0 x3 x4 (ix3 b p k) = BitVec.ofNat 32 (ordered x0 x3 x4 b p (nth k)).val := by
  rw [val_main_v23_apply]
  have h := (topK_apply (FloatOps.cmpfTotal (F := Ideal) (φ := .f32) .gt) (val_main_v22 (F := Ideal) x0 x3 x4)
    sliceFits_S8x2048x2048_S8x2048x16 b p ⟨k.val + 1, by omega⟩).2
  have hi : idx_main_v23 (ix3 b p k) = ix3 b p (⟨k.val + 1, by omega⟩ : Fin 16) := by
    funext a
    match a with
    | ⟨0, _⟩ => rfl
    | ⟨1, _⟩ => rfl
    | ⟨2, _⟩ => exact Fin.ext (Nat.add_comm 1 k.val)
  rw [hi]
  exact h

/-- The value found for the neighbour `k` is the distance at its place, negated. -/
theorem value_eq (b : Fin 8) (p : Fin 2048) (k : Fin 15) :
    val_main_v24 (F := Ideal) x0 x3 x4 (ix3 b p k) = -gaps x0 x3 x4 b p (ordered x0 x3 x4 b p (nth k)) := by
  rw [val_main_v24_apply]
  have h := (topK_apply (FloatOps.cmpfTotal (F := Ideal) (φ := .f32) .gt) (val_main_v22 (F := Ideal) x0 x3 x4)
    sliceFits_S8x2048x2048_S8x2048x16 b p ⟨k.val + 1, by omega⟩).1
  have hi : idx_main_v24 (ix3 b p k) = ix3 b p (⟨k.val + 1, by omega⟩ : Fin 16) := by
    funext a
    match a with
    | ⟨0, _⟩ => rfl
    | ⟨1, _⟩ => rfl
    | ⟨2, _⟩ => exact Fin.ext (Nat.add_comm 1 k.val)
  rw [hi]
  refine h.trans ?_
  rw [val_main_v22_apply, gaps_eq]
  rfl

/-- The weight of the neighbour `k` is the layer's weight of its distance. -/
theorem weight_eq (b : Fin 8) (p : Fin 2048) (k : Fin 15) :
    val_main_v28 (F := Ideal) x0 x3 x4 (ix3 b p k)
      = Nearest.weight (gaps x0 x3 x4 b p (ordered x0 x3 x4 b p (nth k))) := by
  have h25 : val_main_v25 (F := Ideal) x0 x3 x4 (ix3 b p k) = gaps x0 x3 x4 b p (ordered x0 x3 x4 b p (nth k)) := by
    rw [val_main_v25_apply, value_eq]
    exact neg_neg _
  have h26 : val_main_v26 (F := Ideal) (ix3 b p k) = ((-10 : ℝ) : EReal) := by
    rw [val_main_v26_apply, val_main_cst_2_apply]
    exact word_ten
  rw [val_main_v28_apply, val_main_v27_apply, h25, h26]
  rfl

/-- The row the gather reads for the neighbour `k` is the neighbour's place. -/
theorem start_eq (b : Fin 8) (p : Fin 2048) (k : Fin 15) :
    val_main_v34 (F := Ideal) x0 x3 x4 (ix4 b p k 0) = BitVec.ofNat 32 (ordered x0 x3 x4 b p (nth k)).val := by
  have hi : idx_main_v34 (ix4 b p k 0) = ix3 b p k := by
    funext a
    match a with
    | ⟨0, _⟩ => rfl
    | ⟨1, _⟩ => rfl
    | ⟨2, _⟩ => rfl
  rw [val_main_v34_apply, hi, val_main_v33_apply, val_main_v30_apply, val_main_v32_apply, place_eq, val_main_v29_apply,
    val_main_v31_apply, val_main_c_apply, val_main_c_3_apply, fix_place]

/-- The gathered feature of the neighbour `k` is the feature at its place. -/
theorem gathered_eq (b : Fin 8) (p : Fin 2048) (k : Fin 15) (e : Fin 64) :
    val_main_v35 (F := Ideal) x0 x1 x2 x3 x4 (ix4 b p k e)
      = feature x0 x1 x2 b (ordered x0 x3 x4 b p (nth k)) e := by
  unfold val_main_v35
  rw [gather_place _ _ b p k e _ (start_eq x0 x3 x4 b p k), feature_eq]

/-- The weighted feature of the point at place `k + 1` is what round `k + 1` takes. -/
theorem weighted_eq (b : Fin 8) (p : Fin 2048) (k : Fin 15) (e : Fin 64) :
    val_main_v38 (F := Ideal) x0 x1 x2 x3 x4 (ix4 b p k e)
      = Layer.taken (gaps x0 x3 x4 b p) (fun j => feature x0 x1 x2 b j e) k.val := by
  have hi : idx_main_v36 (idx_main_v37 (ix4 b p k e)) = ix3 b p k := by
    funext a
    match a with
    | ⟨0, _⟩ => rfl
    | ⟨1, _⟩ => rfl
    | ⟨2, _⟩ => rfl
  rw [val_main_v38_apply, gathered_eq, val_main_v37_apply, val_main_v36_apply, hi, weight_eq]
  exact (hit_ordered x0 x3 x4 b p (nth k) fun j => feature x0 x1 x2 b j e).symm

/-! ## The mean and the greatest -/

/-- The reference's mean over the neighbours is the layer's. -/
theorem mean_eq (b : Fin 8) (p : Fin 2048) (e : Fin 64) :
    val_main_v41 (F := Ideal) x0 x1 x2 x3 x4 (ix3 b p e)
      = Layer.mean (gaps x0 x3 x4 b p) (fun j => feature x0 x1 x2 b j e) := by
  have h39 : val_main_v39 (F := Ideal) x0 x1 x2 x3 x4 (ix3 b p e)
      = ∑ k ∈ Finset.range 15, Layer.taken (gaps x0 x3 x4 b p) (fun j => feature x0 x1 x2 b j e) k := by
    rw [val_main_v39_apply, val_main_cst_4_apply, Finset.sum_range]
    refine (congrArg (· + _) Ideal.ofBits_zero_f32).trans ((zero_add _).trans (Finset.sum_congr rfl fun k _ => ?_))
    rw [← weighted_eq]
    refine congrArg _ ?_
    funext a
    match a with
    | ⟨0, _⟩ => rfl
    | ⟨1, _⟩ => rfl
    | ⟨2, _⟩ => rfl
    | ⟨3, _⟩ => rfl
  rw [val_main_v41_apply, h39, val_main_v40_apply, val_main_cst_5_apply]
  exact congrArg (Ideal.div _) word_fifteen

/-- A greatest over the first `n` numbers, taken over `Fin n`. -/
theorem sup_fin {n : ℕ} (f : ℕ → EReal) : (Finset.univ : Finset (Fin n)).sup (fun k => f k.val) = (Finset.range n).sup f :=
  le_antisymm
    (Finset.sup_le fun k _ => Finset.le_sup (f := f) (Finset.mem_range.mpr k.isLt))
    (Finset.sup_le fun k hk =>
      Finset.le_sup (f := fun k : Fin n => f k.val) (Finset.mem_univ (⟨k, Finset.mem_range.mp hk⟩ : Fin n)))

/-- The reduction of the third axis of four by the maximum, from `-∞`. -/
theorem greatest_apply (x : FVec Ideal S8x2048x15x64 .f32) (b : Fin 8) (p : Fin 2048) (e : Fin 64) :
    Host.reduce FloatOps.maximumf x (val_main_cst_6 (F := Ideal)) reducesTo_S8x2048x15x64_S8x2048x64_d2 h_S_ (ix3 b p e)
      = (Finset.univ : Finset (Fin 15)).sup fun k => x (ix4 b p k e) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  have hr : S8x2048x15x64.Reduces [2] S8x2048x64 := by decide
  refine (Host.reduce_eq_fold_single _ x _ reducesTo_S8x2048x15x64_S8x2048x64_d2 hr h_S_ (ix3 b p e)).trans ?_
  have hv : x ∘ hr.lift (ix3 b p e) = fun k : Fin 15 => x (ix4 b p k e) := by
    funext k
    refine congrArg x (funext fun a => Fin.ext ?_)
    match a with
    | ⟨0, _⟩ => rfl
    | ⟨1, _⟩ => rfl
    | ⟨2, _⟩ => rfl
    | ⟨3, _⟩ => rfl
  rw [hv, val_main_cst_6_apply]
  show Finset.fold max (Ideal.ofBits .f32 0xFF800000#32) _ _ = _
  rw [word_bot]
  rfl

/-- The reference's greatest value over the neighbours is the layer's. -/
theorem top_eq (b : Fin 8) (p : Fin 2048) (e : Fin 64) :
    val_main_v42 (F := Ideal) x0 x1 x2 x3 x4 (ix3 b p e)
      = Layer.top (gaps x0 x3 x4 b p) (fun j => feature x0 x1 x2 b j e) := by
  unfold val_main_v42 Layer.top
  rw [greatest_apply, ← sup_fin]
  exact Finset.sup_congr rfl fun k _ => weighted_eq x0 x1 x2 x3 x4 b p k e

/-! ## The result -/

/-- The joined row, which the last transform is applied to, starts with the point's own row. -/
theorem joined_row (b : Fin 8) (p : Fin 2048) (k : Fin 64) :
    val_main_v44 (F := Ideal) x0 x1 x2 x3 x4 (ix3 b p ⟨k.val, by omega⟩) = row x0 b p k := by
  unfold val_main_v44
  exact concatenate_pair_apply_left (t := S8x2048x192) (s₁ := S8x2048x64) (s₂ := S8x2048x128) 2 x0 _
    concatenates_S8x2048x64_S8x2048x128_S8x2048x192_d2 _ rfl (ix3 b p k)
    fun a => by
      match a with
      | ⟨0, _⟩ => rfl
      | ⟨1, _⟩ => rfl
      | ⟨2, _⟩ => rfl

/-- Past the first 64 columns the joined row holds the neighbours' part. -/
theorem joined_rest (b : Fin 8) (p : Fin 2048) (k : Fin 128) :
    val_main_v44 (F := Ideal) x0 x1 x2 x3 x4 (ix3 b p ⟨64 + k.val, by omega⟩)
      = val_main_v43 (F := Ideal) x0 x1 x2 x3 x4 (ix3 b p k) := by
  unfold val_main_v44
  refine concatenate_pair_apply_right (t := S8x2048x192) (s₁ := S8x2048x64) (s₂ := S8x2048x128) 2 x0 _
    concatenates_S8x2048x64_S8x2048x128_S8x2048x192_d2 _ rfl rfl
    (ix3 b p k) (fun a ha => ?_) (Nat.add_comm k.val 64)
  match a with
  | ⟨0, _⟩ => rfl
  | ⟨1, _⟩ => rfl
  | ⟨2, _⟩ => exact absurd rfl ha

/-- Columns 64 to 127 of the joined row hold the means. -/
theorem joined_mean (b : Fin 8) (p : Fin 2048) (k : Fin 64) :
    val_main_v44 (F := Ideal) x0 x1 x2 x3 x4 (ix3 b p ⟨64 + k.val, by omega⟩)
      = Layer.mean (gaps x0 x3 x4 b p) (fun j => feature x0 x1 x2 b j k) := by
  rw [← mean_eq]
  refine (joined_rest x0 x1 x2 x3 x4 b p ⟨k.val, by omega⟩).trans ?_
  unfold val_main_v43
  exact concatenate_pair_apply_left (t := S8x2048x128) (s₁ := S8x2048x64) (s₂ := S8x2048x64) 2 _ _
    concatenates_S8x2048x64_S8x2048x64_S8x2048x128_d2 _ rfl (ix3 b p k)
    fun a => by
      match a with
      | ⟨0, _⟩ => rfl
      | ⟨1, _⟩ => rfl
      | ⟨2, _⟩ => rfl

/-- Columns 128 to 191 of the joined row hold the greatest values. -/
theorem joined_top (b : Fin 8) (p : Fin 2048) (k : Fin 64) :
    val_main_v44 (F := Ideal) x0 x1 x2 x3 x4 (ix3 b p ⟨128 + k.val, by omega⟩)
      = Layer.top (gaps x0 x3 x4 b p) (fun j => feature x0 x1 x2 b j k) := by
  rw [← top_eq]
  have hk : (⟨128 + k.val, by omega⟩ : Fin 192) = ⟨64 + (⟨64 + k.val, by omega⟩ : Fin 128).val, by omega⟩ :=
    Fin.ext (by show 128 + k.val = 64 + (64 + k.val); omega)
  rw [hk]
  refine (joined_rest x0 x1 x2 x3 x4 b p ⟨64 + k.val, by omega⟩).trans ?_
  unfold val_main_v43
  refine concatenate_pair_apply_right (t := S8x2048x128) (s₁ := S8x2048x64) (s₂ := S8x2048x64) 2 _ _
    concatenates_S8x2048x64_S8x2048x64_S8x2048x128_d2 _ rfl rfl
    (ix3 b p k) (fun a ha => ?_) (Nat.add_comm k.val 64)
  match a with
  | ⟨0, _⟩ => rfl
  | ⟨1, _⟩ => rfl
  | ⟨2, _⟩ => exact absurd rfl ha

/-- A sum over 192 places, in three parts of 64. -/
theorem sum_parts (f : Fin 192 → EReal) :
    ∑ k, f k = ((∑ k : Fin 64, f ⟨k.val, by omega⟩) + ∑ k : Fin 64, f ⟨64 + k.val, by omega⟩)
      + ∑ k : Fin 64, f ⟨128 + k.val, by omega⟩ := by
  refine (Fin.sum_univ_add (a := 128) (b := 64) f).trans (congrArg₂ (· + ·) ?_ rfl)
  exact Fin.sum_univ_add (a := 64) (b := 64) fun k => f (Fin.castAdd 64 k)

/-- The reference's result at point `p` of batch `b`, column `c`, is the layer's result. -/
theorem result_eq (b : Fin 8) (p : Fin 2048) (c : Fin 128) :
    val_main_v48 (F := Ideal) x0 x1 x2 x3 x4 x5 x6 (ix3 b p c)
      = entry x0 x1 x2 x3 x4 x5 x6 b p c := by
  have h45 : val_main_v45 (F := Ideal) x0 x1 x2 x3 x4 x5 (ix3 b p c)
      = ∑ k : Fin 192, val_main_v44 (F := Ideal) x0 x1 x2 x3 x4 (ix3 b p k) * x5 (ix2 k c) := by
    rw [val_main_v45_apply]
    refine Finset.sum_congr rfl fun k _ => congrArg₂ (· * ·) (congrArg _ ?_) (congrArg x5 ?_)
    · funext a
      match a with
      | ⟨0, _⟩ => rfl
      | ⟨1, _⟩ => rfl
      | ⟨2, _⟩ => rfl
    · funext a
      match a with
      | ⟨0, _⟩ => rfl
      | ⟨1, _⟩ => rfl
  have h47 : val_main_v47 (F := Ideal) x6 (ix3 b p c) = x6 (ix1 c) := by
    rw [val_main_v47_apply, val_main_v46_apply]
    refine congrArg x6 ?_
    funext a
    match a with
    | ⟨0, _⟩ => rfl
  rw [val_main_v48_apply, h45, h47, sum_parts]
  simp only [joined_row, joined_mean, joined_top]
  rfl

/-- The reference's result is the layer's. -/
theorem output_eq : val_main_v48 (F := Ideal) x0 x1 x2 x3 x4 x5 x6 = output x0 x1 x2 x3 x4 x5 x6 := by
  funext i
  rw [eq_ix3 i]
  exact result_eq x0 x1 x2 x3 x4 x5 x6 (i 0) (i 1) (i 2)

end Cert.ReferenceIdeal.Entry
-- ==== Proof.lean ====
/-
  The certificate. The kernel and its reading in exact arithmetic leave their arguments as they were and end with every
  counter at zero; so does the reference. In exact arithmetic the kernel's result array and the reference's are the same
  array: both are `Layer.output` of the arguments, element by element, whatever the arguments are.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem

/-- The reference runs, keeps its arguments, and holds no counter that could be left raised. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The reference's result array is the layer's output on the kernel's arguments, where the two programs' arguments
    agree. -/
theorem reference_answer (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6)) :
    Cert.ReferenceIdeal.Value.res_main_v48 m' c = Cert.KernelIdeal.Whole.answer m c := by
  rw [Cert.ReferenceIdeal.Read.val_main_v48_eq m' c, h0, h1, h2, h3, h4, h5, h6]
  exact Cert.ReferenceIdeal.Entry.output_eq _ _ _ _ _ _ _

/-- In exact arithmetic the kernel and the reference return the same array. -/
theorem same_result : Cert.algebraic_KernelIdeal_ReferenceIdeal (hKernelIdeal := Cert.KernelIdeal.Gen.facts)
    (hReferenceIdeal := Cert.ReferenceIdeal.Gen.facts) := by
  intro m g m' g' _ agree
  refine ⟨fun c => Cert.KernelIdeal.Whole.answer m c, ?_, ?_⟩
  · exact (θ_run Cert.KernelIdeal.defs _ _).mono
      (fun r h c => ⟨(h c).1.trans (Cert.KernelIdeal.Whole.array_eq m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨h0, h1, h2, h3, h4, h5, h6⟩ := agree c
    exact reference_answer m m' c h0 h1 h2 h3 h4 h5 h6

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial,
  same_result⟩

end Cert.Proof

end
